-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![16, 16, 16]⟩ ⟨3, ![32, 64, 64]⟩ (Layout.meshBlock [2, 4, 4] ![[0], [1], [2]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![16, 16, 16]⟩ ⟨3, ![32, 64, 64]⟩ (Layout.meshBlock [2, 4, 4] ![[0], [1], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x16x16 : Shape := ⟨3, ![16, 16, 16]⟩
abbrev S2x16x16 : Shape := ⟨3, ![2, 16, 16]⟩
abbrev S6 : Shape := ⟨1, ![6]⟩
abbrev S_ : Shape := ⟨0, ![]⟩
abbrev S1x16x16 : Shape := ⟨3, ![1, 16, 16]⟩
abbrev S16x16 : Shape := ⟨2, ![16, 16]⟩
abbrev S16x1x16 : Shape := ⟨3, ![16, 1, 16]⟩
abbrev S16x16x1 : Shape := ⟨3, ![16, 16, 1]⟩
abbrev S1 : Shape := ⟨1, ![1]⟩
abbrev S15x16x16 : Shape := ⟨3, ![15, 16, 16]⟩
abbrev S16x15x16 : Shape := ⟨3, ![16, 15, 16]⟩
abbrev S16x16x15 : Shape := ⟨3, ![16, 16, 15]⟩

abbrev nBuf : Space → Nat
  | .hbm => 2
  | .vmem => 8
  | .smem => 0
  | _ => 0

abbrev bufTy : (tb : Table) → Fin (tcTables nBuf tb) → BufTy
  | .hbm, ⟨0, _⟩ => ⟨S16x16x16, .bf16⟩
  | .hbm, ⟨1, _⟩ => ⟨S16x16x16, .bf16⟩
  | .local _ .vmem, ⟨0, _⟩ => ⟨S16x16x16, .bf16⟩
  | .local _ .vmem, ⟨1, _⟩ => ⟨S16x16x16, .bf16⟩
  | .local _ .vmem, ⟨2, _⟩ => ⟨S2x16x16, .bf16⟩
  | .local _ .vmem, ⟨3, _⟩ => ⟨S2x16x16, .bf16⟩
  | .local _ .vmem, ⟨4, _⟩ => ⟨S2x16x16, .bf16⟩
  | .local _ .vmem, ⟨5, _⟩ => ⟨S2x16x16, .bf16⟩
  | .local _ .vmem, ⟨6, _⟩ => ⟨S2x16x16, .bf16⟩
  | .local _ .vmem, ⟨7, _⟩ => ⟨S2x16x16, .bf16⟩
  | _, _ => ⟨S16x16x16, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .sgt v2 c0_i32
  let v34 : BitVec 32 := Scalar.extui v9
  let c0_i32_23 : BitVec 32 := 0#32
  let v35 : BitVec 1 := Scalar.cmpi .ne v34 c0_i32_23
  v35

def k0_dev1 (d0 : Dev nD) : Nat :=
  let c0_i32_128 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c_m1_i32 : BitVec 32 := 4294967295#32
  let v10 : BitVec 32 := Scalar.addi v2 c_m1_i32
  let c16_i32_127 : BitVec 32 := 16#32
  let v263 : BitVec 32 := Scalar.muli v10 c16_i32_127
  let v264 : BitVec 32 := Scalar.addi c0_i32_128 v263
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2 : BitVec 32 := 0#32
  let v11 : BitVec 32 := Scalar.addi v5 c0_i32_2
  let c4_i32_129 : BitVec 32 := 4#32
  let v265 : BitVec 32 := Scalar.muli v11 c4_i32_129
  let v266 : BitVec 32 := Scalar.addi v264 v265
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_3 : BitVec 32 := 0#32
  let v12 : BitVec 32 := Scalar.addi v8 c0_i32_3
  let c1_i32_130 : BitVec 32 := 1#32
  let v267 : BitVec 32 := Scalar.muli v12 c1_i32_130
  let v268 : BitVec 32 := Scalar.addi v266 v267
  v268.toNat
def k0_cond3 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_4 : BitVec 32 := 1#32
  let v13 : BitVec 1 := Scalar.cmpi .slt v2 c1_i32_4
  let v39 : BitVec 32 := Scalar.extui v13
  let c0_i32_25 : BitVec 32 := 0#32
  let v40 : BitVec 1 := Scalar.cmpi .ne v39 c0_i32_25
  v40

def k0_dev2 (d0 : Dev nD) : Nat :=
  let c0_i32_128 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_5 : BitVec 32 := 1#32
  let v14 : BitVec 32 := Scalar.addi v2 c1_i32_5
  let c16_i32_127 : BitVec 32 := 16#32
  let v263 : BitVec 32 := Scalar.muli v14 c16_i32_127
  let v264 : BitVec 32 := Scalar.addi c0_i32_128 v263
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_6 : BitVec 32 := 0#32
  let v15 : BitVec 32 := Scalar.addi v5 c0_i32_6
  let c4_i32_129 : BitVec 32 := 4#32
  let v265 : BitVec 32 := Scalar.muli v15 c4_i32_129
  let v266 : BitVec 32 := Scalar.addi v264 v265
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_7 : BitVec 32 := 0#32
  let v16 : BitVec 32 := Scalar.addi v8 c0_i32_7
  let c1_i32_130 : BitVec 32 := 1#32
  let v267 : BitVec 32 := Scalar.muli v16 c1_i32_130
  let v268 : BitVec 32 := Scalar.addi v266 v267
  v268.toNat
def k0_cond5 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_8 : BitVec 32 := 0#32
  let v17 : BitVec 1 := Scalar.cmpi .sgt v5 c0_i32_8
  let v44 : BitVec 32 := Scalar.extui v17
  let c0_i32_28 : BitVec 32 := 0#32
  let v45 : BitVec 1 := Scalar.cmpi .ne v44 c0_i32_28
  v45

def k0_dev3 (d0 : Dev nD) : Nat :=
  let c0_i32_128 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_9 : BitVec 32 := 0#32
  let v18 : BitVec 32 := Scalar.addi v2 c0_i32_9
  let c16_i32_127 : BitVec 32 := 16#32
  let v263 : BitVec 32 := Scalar.muli v18 c16_i32_127
  let v264 : BitVec 32 := Scalar.addi c0_i32_128 v263
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_10 : BitVec 32 := 4294967295#32
  let v19 : BitVec 32 := Scalar.addi v5 c_m1_i32_10
  let c4_i32_129 : BitVec 32 := 4#32
  let v265 : BitVec 32 := Scalar.muli v19 c4_i32_129
  let v266 : BitVec 32 := Scalar.addi v264 v265
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_11 : BitVec 32 := 0#32
  let v20 : BitVec 32 := Scalar.addi v8 c0_i32_11
  let c1_i32_130 : BitVec 32 := 1#32
  let v267 : BitVec 32 := Scalar.muli v20 c1_i32_130
  let v268 : BitVec 32 := Scalar.addi v266 v267
  v268.toNat
def k0_cond7 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v21 : BitVec 1 := Scalar.cmpi .slt v5 c3_i32
  let v49 : BitVec 32 := Scalar.extui v21
  let c0_i32_31 : BitVec 32 := 0#32
  let v50 : BitVec 1 := Scalar.cmpi .ne v49 c0_i32_31
  v50

def k0_dev4 (d0 : Dev nD) : Nat :=
  let c0_i32_128 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_12 : BitVec 32 := 0#32
  let v22 : BitVec 32 := Scalar.addi v2 c0_i32_12
  let c16_i32_127 : BitVec 32 := 16#32
  let v263 : BitVec 32 := Scalar.muli v22 c16_i32_127
  let v264 : BitVec 32 := Scalar.addi c0_i32_128 v263
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_13 : BitVec 32 := 1#32
  let v23 : BitVec 32 := Scalar.addi v5 c1_i32_13
  let c4_i32_129 : BitVec 32 := 4#32
  let v265 : BitVec 32 := Scalar.muli v23 c4_i32_129
  let v266 : BitVec 32 := Scalar.addi v264 v265
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_14 : BitVec 32 := 0#32
  let v24 : BitVec 32 := Scalar.addi v8 c0_i32_14
  let c1_i32_130 : BitVec 32 := 1#32
  let v267 : BitVec 32 := Scalar.muli v24 c1_i32_130
  let v268 : BitVec 32 := Scalar.addi v266 v267
  v268.toNat
def k0_cond9 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_15 : BitVec 32 := 0#32
  let v25 : BitVec 1 := Scalar.cmpi .sgt v8 c0_i32_15
  let v54 : BitVec 32 := Scalar.extui v25
  let c0_i32_34 : BitVec 32 := 0#32
  let v55 : BitVec 1 := Scalar.cmpi .ne v54 c0_i32_34
  v55

def k0_dev5 (d0 : Dev nD) : Nat :=
  let c0_i32_128 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v26 : BitVec 32 := Scalar.addi v2 c0_i32_16
  let c16_i32_127 : BitVec 32 := 16#32
  let v263 : BitVec 32 := Scalar.muli v26 c16_i32_127
  let v264 : BitVec 32 := Scalar.addi c0_i32_128 v263
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_17 : BitVec 32 := 0#32
  let v27 : BitVec 32 := Scalar.addi v5 c0_i32_17
  let c4_i32_129 : BitVec 32 := 4#32
  let v265 : BitVec 32 := Scalar.muli v27 c4_i32_129
  let v266 : BitVec 32 := Scalar.addi v264 v265
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_18 : BitVec 32 := 4294967295#32
  let v28 : BitVec 32 := Scalar.addi v8 c_m1_i32_18
  let c1_i32_130 : BitVec 32 := 1#32
  let v267 : BitVec 32 := Scalar.muli v28 c1_i32_130
  let v268 : BitVec 32 := Scalar.addi v266 v267
  v268.toNat
def k0_cond11 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_19 : BitVec 32 := 3#32
  let v29 : BitVec 1 := Scalar.cmpi .slt v8 c3_i32_19
  let v59 : BitVec 32 := Scalar.extui v29
  let c0_i32_37 : BitVec 32 := 0#32
  let v60 : BitVec 1 := Scalar.cmpi .ne v59 c0_i32_37
  v60

def k0_dev6 (d0 : Dev nD) : Nat :=
  let c0_i32_128 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_20 : BitVec 32 := 0#32
  let v30 : BitVec 32 := Scalar.addi v2 c0_i32_20
  let c16_i32_127 : BitVec 32 := 16#32
  let v263 : BitVec 32 := Scalar.muli v30 c16_i32_127
  let v264 : BitVec 32 := Scalar.addi c0_i32_128 v263
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_21 : BitVec 32 := 0#32
  let v31 : BitVec 32 := Scalar.addi v5 c0_i32_21
  let c4_i32_129 : BitVec 32 := 4#32
  let v265 : BitVec 32 := Scalar.muli v31 c4_i32_129
  let v266 : BitVec 32 := Scalar.addi v264 v265
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v32 : BitVec 32 := Scalar.addi v8 c1_i32_22
  let c1_i32_130 : BitVec 32 := 1#32
  let v267 : BitVec 32 := Scalar.muli v32 c1_i32_130
  let v268 : BitVec 32 := Scalar.addi v266 v267
  v268.toNat
def k0_cond13 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .sgt v2 c0_i32
  let v96 : BitVec 32 := Scalar.extui v9
  let c0_i32_60 : BitVec 32 := 0#32
  let v97 : BitVec 1 := Scalar.cmpi .ne v96 c0_i32_60
  v97

def k0_dev7 (d0 : Dev nD) : Nat :=
  let c0_i32_131 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c_m1_i32 : BitVec 32 := 4294967295#32
  let v10 : BitVec 32 := Scalar.addi v2 c_m1_i32
  let c16_i32_130 : BitVec 32 := 16#32
  let v263 : BitVec 32 := Scalar.muli v10 c16_i32_130
  let v264 : BitVec 32 := Scalar.addi c0_i32_131 v263
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_2 : BitVec 32 := 0#32
  let v11 : BitVec 32 := Scalar.addi v5 c0_i32_2
  let c4_i32_132 : BitVec 32 := 4#32
  let v265 : BitVec 32 := Scalar.muli v11 c4_i32_132
  let v266 : BitVec 32 := Scalar.addi v264 v265
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_3 : BitVec 32 := 0#32
  let v12 : BitVec 32 := Scalar.addi v8 c0_i32_3
  let c1_i32_133 : BitVec 32 := 1#32
  let v267 : BitVec 32 := Scalar.muli v12 c1_i32_133
  let v268 : BitVec 32 := Scalar.addi v266 v267
  v268.toNat
def k0_cond14 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_4 : BitVec 32 := 1#32
  let v13 : BitVec 1 := Scalar.cmpi .slt v2 c1_i32_4
  let v98 : BitVec 32 := Scalar.extui v13
  let c0_i32_61 : BitVec 32 := 0#32
  let v99 : BitVec 1 := Scalar.cmpi .ne v98 c0_i32_61
  v99

def k0_dev8 (d0 : Dev nD) : Nat :=
  let c0_i32_131 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_5 : BitVec 32 := 1#32
  let v14 : BitVec 32 := Scalar.addi v2 c1_i32_5
  let c16_i32_130 : BitVec 32 := 16#32
  let v263 : BitVec 32 := Scalar.muli v14 c16_i32_130
  let v264 : BitVec 32 := Scalar.addi c0_i32_131 v263
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_6 : BitVec 32 := 0#32
  let v15 : BitVec 32 := Scalar.addi v5 c0_i32_6
  let c4_i32_132 : BitVec 32 := 4#32
  let v265 : BitVec 32 := Scalar.muli v15 c4_i32_132
  let v266 : BitVec 32 := Scalar.addi v264 v265
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_7 : BitVec 32 := 0#32
  let v16 : BitVec 32 := Scalar.addi v8 c0_i32_7
  let c1_i32_133 : BitVec 32 := 1#32
  let v267 : BitVec 32 := Scalar.muli v16 c1_i32_133
  let v268 : BitVec 32 := Scalar.addi v266 v267
  v268.toNat
def k0_cond15 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_8 : BitVec 32 := 0#32
  let v17 : BitVec 1 := Scalar.cmpi .sgt v5 c0_i32_8
  let v100 : BitVec 32 := Scalar.extui v17
  let c0_i32_62 : BitVec 32 := 0#32
  let v101 : BitVec 1 := Scalar.cmpi .ne v100 c0_i32_62
  v101

def k0_dev9 (d0 : Dev nD) : Nat :=
  let c0_i32_131 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_9 : BitVec 32 := 0#32
  let v18 : BitVec 32 := Scalar.addi v2 c0_i32_9
  let c16_i32_130 : BitVec 32 := 16#32
  let v263 : BitVec 32 := Scalar.muli v18 c16_i32_130
  let v264 : BitVec 32 := Scalar.addi c0_i32_131 v263
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_10 : BitVec 32 := 4294967295#32
  let v19 : BitVec 32 := Scalar.addi v5 c_m1_i32_10
  let c4_i32_132 : BitVec 32 := 4#32
  let v265 : BitVec 32 := Scalar.muli v19 c4_i32_132
  let v266 : BitVec 32 := Scalar.addi v264 v265
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_11 : BitVec 32 := 0#32
  let v20 : BitVec 32 := Scalar.addi v8 c0_i32_11
  let c1_i32_133 : BitVec 32 := 1#32
  let v267 : BitVec 32 := Scalar.muli v20 c1_i32_133
  let v268 : BitVec 32 := Scalar.addi v266 v267
  v268.toNat
def k0_cond16 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v21 : BitVec 1 := Scalar.cmpi .slt v5 c3_i32
  let v102 : BitVec 32 := Scalar.extui v21
  let c0_i32_63 : BitVec 32 := 0#32
  let v103 : BitVec 1 := Scalar.cmpi .ne v102 c0_i32_63
  v103

def k0_dev10 (d0 : Dev nD) : Nat :=
  let c0_i32_131 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_12 : BitVec 32 := 0#32
  let v22 : BitVec 32 := Scalar.addi v2 c0_i32_12
  let c16_i32_130 : BitVec 32 := 16#32
  let v263 : BitVec 32 := Scalar.muli v22 c16_i32_130
  let v264 : BitVec 32 := Scalar.addi c0_i32_131 v263
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_13 : BitVec 32 := 1#32
  let v23 : BitVec 32 := Scalar.addi v5 c1_i32_13
  let c4_i32_132 : BitVec 32 := 4#32
  let v265 : BitVec 32 := Scalar.muli v23 c4_i32_132
  let v266 : BitVec 32 := Scalar.addi v264 v265
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_14 : BitVec 32 := 0#32
  let v24 : BitVec 32 := Scalar.addi v8 c0_i32_14
  let c1_i32_133 : BitVec 32 := 1#32
  let v267 : BitVec 32 := Scalar.muli v24 c1_i32_133
  let v268 : BitVec 32 := Scalar.addi v266 v267
  v268.toNat
def k0_cond17 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_15 : BitVec 32 := 0#32
  let v25 : BitVec 1 := Scalar.cmpi .sgt v8 c0_i32_15
  let v104 : BitVec 32 := Scalar.extui v25
  let c0_i32_64 : BitVec 32 := 0#32
  let v105 : BitVec 1 := Scalar.cmpi .ne v104 c0_i32_64
  v105

def k0_dev11 (d0 : Dev nD) : Nat :=
  let c0_i32_130 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v26 : BitVec 32 := Scalar.addi v2 c0_i32_16
  let c16_i32_129 : BitVec 32 := 16#32
  let v263 : BitVec 32 := Scalar.muli v26 c16_i32_129
  let v264 : BitVec 32 := Scalar.addi c0_i32_130 v263
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_17 : BitVec 32 := 0#32
  let v27 : BitVec 32 := Scalar.addi v5 c0_i32_17
  let c4_i32_131 : BitVec 32 := 4#32
  let v265 : BitVec 32 := Scalar.muli v27 c4_i32_131
  let v266 : BitVec 32 := Scalar.addi v264 v265
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_18 : BitVec 32 := 4294967295#32
  let v28 : BitVec 32 := Scalar.addi v8 c_m1_i32_18
  let c1_i32_132 : BitVec 32 := 1#32
  let v267 : BitVec 32 := Scalar.muli v28 c1_i32_132
  let v268 : BitVec 32 := Scalar.addi v266 v267
  v268.toNat
def k0_cond18 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_19 : BitVec 32 := 3#32
  let v29 : BitVec 1 := Scalar.cmpi .slt v8 c3_i32_19
  let v106 : BitVec 32 := Scalar.extui v29
  let c0_i32_65 : BitVec 32 := 0#32
  let v107 : BitVec 1 := Scalar.cmpi .ne v106 c0_i32_65
  v107

def k0_dev12 (d0 : Dev nD) : Nat :=
  let c0_i32_130 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_20 : BitVec 32 := 0#32
  let v30 : BitVec 32 := Scalar.addi v2 c0_i32_20
  let c16_i32_129 : BitVec 32 := 16#32
  let v263 : BitVec 32 := Scalar.muli v30 c16_i32_129
  let v264 : BitVec 32 := Scalar.addi c0_i32_130 v263
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_21 : BitVec 32 := 0#32
  let v31 : BitVec 32 := Scalar.addi v5 c0_i32_21
  let c4_i32_131 : BitVec 32 := 4#32
  let v265 : BitVec 32 := Scalar.muli v31 c4_i32_131
  let v266 : BitVec 32 := Scalar.addi v264 v265
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v32 : BitVec 32 := Scalar.addi v8 c1_i32_22
  let c1_i32_132 : BitVec 32 := 1#32
  let v267 : BitVec 32 := Scalar.muli v32 c1_i32_132
  let v268 : BitVec 32 := Scalar.addi v266 v267
  v268.toNat
abbrev stage0_0 : Fin 1 → Memref sig .tc .vmem S16x16x16 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x16x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32x64x64 : Shape := ⟨3, ![32, 64, 64]⟩
abbrev S30x62x62 : Shape := ⟨3, ![30, 62, 62]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S32x64x64, .bf16⟩
  | .hbm, ⟨1, _⟩ => ⟨S32x64x64, .f32⟩
  | .hbm, ⟨2, _⟩ => ⟨S30x62x62, .f32⟩
  | .hbm, ⟨3, _⟩ => ⟨S30x62x62, .f32⟩
  | .hbm, ⟨4, _⟩ => ⟨S30x62x62, .f32⟩
  | .hbm, ⟨5, _⟩ => ⟨S30x62x62, .f32⟩
  | .hbm, ⟨6, _⟩ => ⟨S30x62x62, .f32⟩
  | .hbm, ⟨7, _⟩ => ⟨S30x62x62, .f32⟩
  | .hbm, ⟨8, _⟩ => ⟨S30x62x62, .f32⟩
  | .hbm, ⟨9, _⟩ => ⟨S30x62x62, .f32⟩
  | .hbm, ⟨10, _⟩ => ⟨S30x62x62, .f32⟩
  | .hbm, ⟨11, _⟩ => ⟨S30x62x62, .f32⟩
  | .hbm, ⟨12, _⟩ => ⟨S30x62x62, .f32⟩
  | .hbm, ⟨13, _⟩ => ⟨S30x62x62, .f32⟩
  | .hbm, ⟨14, _⟩ => ⟨S_, .f32⟩
  | .hbm, ⟨15, _⟩ => ⟨S30x62x62, .f32⟩
  | .hbm, ⟨16, _⟩ => ⟨S30x62x62, .f32⟩
  | .hbm, ⟨17, _⟩ => ⟨S30x62x62, .f32⟩
  | .hbm, ⟨18, _⟩ => ⟨S_, .i32⟩
  | .hbm, ⟨19, _⟩ => ⟨S_, .f32⟩
  | .hbm, ⟨20, _⟩ => ⟨S32x64x64, .f32⟩
  | .hbm, ⟨21, _⟩ => ⟨S32x64x64, .bf16⟩
  | _, _ => ⟨S32x64x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_cst : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_c : Ref sig .tc := ⟨.hbm, 18, rfl⟩
abbrev main_call0_v0 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== Proof.Mesh.lean ====
/-
# The six-direction halo exchange: the mesh, the slots and the cells

The kernel runs on a mesh of 2 × 4 × 4 devices. A DIRECTION is a number below six: `2 * axis + sign`, sign 0 towards
the lower coordinate and sign 1 towards the upper one. Everything the exchange does is said once, for a direction `d`:
which devices have a neighbour there (`has`), which device it is (`nbr`), the slot a face is sent from (`sendM d`), the
slot the neighbour's face lands in (`recvM d`), the semaphores of the two ends.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Halo

open Cert.KernelIdeal Cert.KernelIdeal.Gen

open Idealize.ShloMosaic
open Idealize.ShloMosaic.TcCoe
open Idealize.SL Idealize.SL.Sem

/-! ## The mesh -/

/-- A direction: `2 * axis + sign`. -/
abbrev Dir : Type := Fin 6

/-- The direction the other way along the same axis. -/
def opp : Dir → Dir := ![1, 0, 3, 2, 5, 4]

/-- Does device `c` have a neighbour in direction `d`? The mesh is no torus: the outer devices have none outwards. -/
def has (c : Dev nD) (d : Dir) : Bool :=
  ![decide (0 < c.val / 16), decide (c.val / 16 < 1), decide (0 < c.val / 4 % 4), decide (c.val / 4 % 4 < 3),
    decide (0 < c.val % 4), decide (c.val % 4 < 3)] d

set_option backward.proofsInPublic true in
/-- Device `c`'s neighbour in direction `d`; `c` itself where there is none. -/
def nbr (c : Dev nD) (d : Dir) : Dev nD :=
  if has c d then ⟨(c.val + ![16, 16, 28, 4, 31, 1] d) % 32, Nat.mod_lt _ (by decide)⟩ else c

/-- Under which name device `c` signals in direction `d`: the neighbour sees it come from the opposite direction; where
    there is no neighbour, the device signals itself under the direction's own name. -/
def key (c : Dev nD) (d : Dir) : Dir := if has c d then opp d else d

theorem opp_opp (d : Dir) : opp (opp d) = d := by revert d; decide
theorem key_of_has {c : Dev nD} {d : Dir} (h : has c d = true) : key c d = opp d := if_pos h
theorem key_of_not {c : Dev nD} {d : Dir} (h : has c d = false) : key c d = d := by unfold key; rw [h]; rfl
theorem nbr_of_not {c : Dev nD} {d : Dir} (h : has c d = false) : nbr c d = c := by unfold nbr; rw [h]; rfl

/-- A neighbour has the device as its neighbour the other way, -/
theorem has_opp : ∀ (c : Dev nD) (d : Dir), has c d = true → has (nbr c d) (opp d) = true := by decide +kernel
theorem nbr_opp : ∀ (c : Dev nD) (d : Dir), has c d = true → nbr (nbr c d) (opp d) = c := by decide +kernel
/-- and is another device. -/
theorem nbr_ne : ∀ (c : Dev nD) (d : Dir), has c d = true → nbr c d ≠ c := by decide +kernel
/-- The pairing of (device, direction) with (neighbour, name there) is its own inverse. -/
theorem nbr_key : ∀ (c : Dev nD) (d : Dir), nbr (nbr c d) (key c d) = c := by decide +kernel
theorem key_key : ∀ (c : Dev nD) (d : Dir), key (nbr c d) (key c d) = d := by decide +kernel

/-- That pairing. -/
def pairing : Dev nD × Dir ≃ Dev nD × Dir where
  toFun p := (nbr p.1 p.2, key p.1 p.2)
  invFun p := (nbr p.1 p.2, key p.1 p.2)
  left_inv p := Prod.ext (nbr_key p.1 p.2) (key_key p.1 p.2)
  right_inv p := Prod.ext (nbr_key p.1 p.2) (key_key p.1 p.2)

/-- A truth value as the one-bit word the kernel computes it as. -/
def bit (b : Bool) : BitVec 1 := if b then 1#1 else 0#1

/-! ### The kernel's address arithmetic -/

theorem dev1_eq : ∀ (c : Dev nD) (h : k0_cond1 c = 1#1), (⟨k0_dev1 c, k0_dev1_lt c h⟩ : Dev nD) = nbr c 0 := by decide +kernel
theorem dev2_eq : ∀ (c : Dev nD) (h : k0_cond3 c = 1#1), (⟨k0_dev2 c, k0_dev2_lt c h⟩ : Dev nD) = nbr c 1 := by decide +kernel
theorem dev3_eq : ∀ (c : Dev nD) (h : k0_cond5 c = 1#1), (⟨k0_dev3 c, k0_dev3_lt c h⟩ : Dev nD) = nbr c 2 := by decide +kernel
theorem dev4_eq : ∀ (c : Dev nD) (h : k0_cond7 c = 1#1), (⟨k0_dev4 c, k0_dev4_lt c h⟩ : Dev nD) = nbr c 3 := by decide +kernel
theorem dev5_eq : ∀ (c : Dev nD) (h : k0_cond9 c = 1#1), (⟨k0_dev5 c, k0_dev5_lt c h⟩ : Dev nD) = nbr c 4 := by decide +kernel
theorem dev6_eq : ∀ (c : Dev nD) (h : k0_cond11 c = 1#1), (⟨k0_dev6 c, k0_dev6_lt c h⟩ : Dev nD) = nbr c 5 := by decide +kernel
theorem dev7_eq : ∀ (c : Dev nD) (h : k0_cond13 c = 1#1), (⟨k0_dev7 c, k0_dev7_lt c h⟩ : Dev nD) = nbr c 0 := by decide +kernel
theorem dev8_eq : ∀ (c : Dev nD) (h : k0_cond14 c = 1#1), (⟨k0_dev8 c, k0_dev8_lt c h⟩ : Dev nD) = nbr c 1 := by decide +kernel
theorem dev9_eq : ∀ (c : Dev nD) (h : k0_cond15 c = 1#1), (⟨k0_dev9 c, k0_dev9_lt c h⟩ : Dev nD) = nbr c 2 := by decide +kernel
theorem dev10_eq : ∀ (c : Dev nD) (h : k0_cond16 c = 1#1), (⟨k0_dev10 c, k0_dev10_lt c h⟩ : Dev nD) = nbr c 3 := by decide +kernel
theorem dev11_eq : ∀ (c : Dev nD) (h : k0_cond17 c = 1#1), (⟨k0_dev11 c, k0_dev11_lt c h⟩ : Dev nD) = nbr c 4 := by decide +kernel
theorem dev12_eq : ∀ (c : Dev nD) (h : k0_cond18 c = 1#1), (⟨k0_dev12 c, k0_dev12_lt c h⟩ : Dev nD) = nbr c 5 := by decide +kernel

/-- The conditions the kernel signals and sends under. -/
theorem cond1_iff : ∀ c : Dev nD, (k0_cond1 c = 1#1 ↔ has c 0 = true) := by decide +kernel
theorem cond3_iff : ∀ c : Dev nD, (k0_cond3 c = 1#1 ↔ has c 1 = true) := by decide +kernel
theorem cond5_iff : ∀ c : Dev nD, (k0_cond5 c = 1#1 ↔ has c 2 = true) := by decide +kernel
theorem cond7_iff : ∀ c : Dev nD, (k0_cond7 c = 1#1 ↔ has c 3 = true) := by decide +kernel
theorem cond9_iff : ∀ c : Dev nD, (k0_cond9 c = 1#1 ↔ has c 4 = true) := by decide +kernel
theorem cond11_iff : ∀ c : Dev nD, (k0_cond11 c = 1#1 ↔ has c 5 = true) := by decide +kernel
theorem cond13_iff : ∀ c : Dev nD, (k0_cond13 c = 1#1 ↔ has c 0 = true) := by decide +kernel
theorem cond14_iff : ∀ c : Dev nD, (k0_cond14 c = 1#1 ↔ has c 1 = true) := by decide +kernel
theorem cond15_iff : ∀ c : Dev nD, (k0_cond15 c = 1#1 ↔ has c 2 = true) := by decide +kernel
theorem cond16_iff : ∀ c : Dev nD, (k0_cond16 c = 1#1 ↔ has c 3 = true) := by decide +kernel
theorem cond17_iff : ∀ c : Dev nD, (k0_cond17 c = 1#1 ↔ has c 4 = true) := by decide +kernel
theorem cond18_iff : ∀ c : Dev nD, (k0_cond18 c = 1#1 ↔ has c 5 = true) := by decide +kernel

/-- A device's coordinate along each axis, as the kernel computes it. -/
def wx (c : Dev nD) : BitVec 32 := Scalar.remsi (Scalar.divsi (Dev.word c) 16#32) 2#32
def wy (c : Dev nD) : BitVec 32 := Scalar.remsi (Scalar.divsi (Dev.word c) 4#32) 4#32
def wz (c : Dev nD) : BitVec 32 := Scalar.remsi (Scalar.divsi (Dev.word c) 1#32) 4#32

/-- The six tests the kernel makes on them say where the device has a neighbour. -/
theorem bit0 : ∀ c : Dev nD, Scalar.cmpi .sgt (wx c) 0#32 = bit (has c 0) := by decide +kernel
theorem bit1 : ∀ c : Dev nD, Scalar.cmpi .slt (wx c) 1#32 = bit (has c 1) := by decide +kernel
theorem bit2 : ∀ c : Dev nD, Scalar.cmpi .sgt (wy c) 0#32 = bit (has c 2) := by decide +kernel
theorem bit3 : ∀ c : Dev nD, Scalar.cmpi .slt (wy c) 3#32 = bit (has c 3) := by decide +kernel
theorem bit4 : ∀ c : Dev nD, Scalar.cmpi .sgt (wz c) 0#32 = bit (has c 4) := by decide +kernel
theorem bit5 : ∀ c : Dev nD, Scalar.cmpi .slt (wz c) 3#32 = bit (has c 5) := by decide +kernel

/-- The two ways the kernel branches on such a test: on it, and on its negation. -/
theorem bit_on : ∀ b : Bool, (Scalar.cmpi .ne (Scalar.extui (bit b) : BitVec 32) 0#32 = 1#1 ↔ b = true) := by decide
theorem bit_off : ∀ b : Bool, (Scalar.cmpi .ne (Scalar.extui (Scalar.xori (bit b) 1#1) : BitVec 32) 0#32 = 1#1 ↔ b = false) := by decide

/-! ## The slots -/

abbrev xM : Memref sig .tc .vmem S16x16x16 .bf16 := Memref.whole cc0_stg0_0
abbrev oM : Memref sig .tc .vmem S16x16x16 .bf16 := Memref.whole cc0_stg1_0

abbrev row0 : Rect S2x16x16 := Rect.unit (s := S2x16x16) ![0, 0, 0] S1x16x16.size inb_S2x16x16_S1x16x16_0_0_0
abbrev row1 : Rect S2x16x16 := Rect.unit (s := S2x16x16) ![1, 0, 0] S1x16x16.size inb_S2x16x16_S1x16x16_1_0_0

/-- The two slots of a two-slot buffer, as 16 × 16 faces. -/
abbrev lowSlot (M : Memref sig .tc .vmem S2x16x16 .bf16) : Memref sig .tc .vmem S16x16 .bf16 :=
  (M.slice row0 (fun _ => rfl)).squeeze S16x16 squeezes_S1x16x16_S16x16
abbrev highSlot (M : Memref sig .tc .vmem S2x16x16 .bf16) : Memref sig .tc .vmem S16x16 .bf16 :=
  (M.slice row1 (fun _ => rfl)).squeeze S16x16 squeezes_S1x16x16_S16x16

/-- The slot the face of direction `d` is sent from, -/
def sendM : Dir → Memref sig .tc .vmem S16x16 .bf16
  | 0 => lowSlot (Memref.whole cc0_scratch0) | 1 => highSlot (Memref.whole cc0_scratch0)
  | 2 => lowSlot (Memref.whole cc0_scratch1) | 3 => highSlot (Memref.whole cc0_scratch1)
  | 4 => lowSlot (Memref.whole cc0_scratch2) | 5 => highSlot (Memref.whole cc0_scratch2)
/-- and the slot the face of the neighbour in direction `d` lands in. -/
def recvM : Dir → Memref sig .tc .vmem S16x16 .bf16
  | 0 => lowSlot (Memref.whole cc0_scratch3) | 1 => highSlot (Memref.whole cc0_scratch3)
  | 2 => lowSlot (Memref.whole cc0_scratch4) | 3 => highSlot (Memref.whole cc0_scratch4)
  | 4 => lowSlot (Memref.whole cc0_scratch5) | 5 => highSlot (Memref.whole cc0_scratch5)

/-! ## The cells -/

/-- The runtime's barrier semaphore. -/
abbrev barS : Sem sig := (SemArray.scalar (sig.barrier 0 rfl) : Sems sig S_).sem
/-- The semaphore on which the send of direction `d` completes, -/
def sendS : Dir → DmaSem sig := ![2, 3, 4, 5, 6, 7]
/-- and the one on which the arrival from direction `d` does. -/
def recvS : Dir → DmaSem sig := ![8, 9, 10, 11, 12, 13]

abbrev barCell (c : Dev nD) : GSem nD τ sig := ((c : Thread nD τ), .reg barS)
abbrev sendCell (c : Dev nD) (d : Dir) : GSem nD τ sig := ((c : Thread nD τ), .dma (sendS d))
abbrev recvCell (c : Dev nD) (d : Dir) : GSem nD τ sig := ((c : Thread nD τ), .dma (recvS d))

/-- The kernel's own semaphores: six of the sends, six of the arrivals. -/
abbrev osem : Fin 12 → SemLoc sig :=
  ![.dma 2, .dma 3, .dma 4, .dma 5, .dma 6, .dma 7, .dma 8, .dma 9, .dma 10, .dma 11, .dma 12, .dma 13]
/-- All thirteen the exchange runs on: the barrier, then those. -/
abbrev csem : Fin 13 → SemLoc sig :=
  ![.reg barS, .dma 2, .dma 3, .dma 4, .dma 5, .dma 6, .dma 7, .dma 8, .dma 9, .dma 10, .dma 11, .dma 12, .dma 13]
abbrev kcell (ck : Dev nD × Fin 13) : GSem nD τ sig := ((ck.1 : Thread nD τ), csem ck.2)

/-- Where the two cells of a direction stand among the thirteen. -/
def sIx : Dir → Fin 13 := ![1, 2, 3, 4, 5, 6]
def rIx : Dir → Fin 13 := ![7, 8, 9, 10, 11, 12]

theorem csem_s : ∀ d : Dir, csem (sIx d) = .dma (sendS d) := by decide
theorem csem_r : ∀ d : Dir, csem (rIx d) = .dma (recvS d) := by decide
theorem kcell_s (c : Dev nD) (d : Dir) : kcell (c, sIx d) = sendCell c d := by unfold kcell; rw [csem_s]
theorem kcell_r (c : Dev nD) (d : Dir) : kcell (c, rIx d) = recvCell c d := by unfold kcell; rw [csem_r]

/-- The bytes of one face, as a semaphore counts them. -/
abbrev N : ℕ := (sendM 0).view.dmaCredit
theorem N_pos : 0 < N := View.dmaCredit_pos _ (by decide)
theorem credit_send : ∀ d : Dir, (sendM d).view.dmaCredit = N := by
  intro d; fin_cases d <;> rfl
theorem credit_recv : ∀ d : Dir, (recvM d).view.dmaCredit = N := by
  intro d; fin_cases d <;> rfl

end Cert.Halo

end
-- ==== Proof.Protocol.lean ====
/-
# The six-direction halo exchange: the protocol

Every device signals, for each of the six directions, the neighbour's barrier (its own where there is none), waits for
six units on its own barrier, then sends a face to each neighbour it has. A signal to a neighbour hands over the slot
the neighbour's face will land in; a completed send gives the source slot back; a completed arrival gives the landing
slot back, holding the neighbour's face.

This file states that as a schedule of one round: which payments each semaphore expects, of how many units, and what
each hands over. Further: what each device owes at launch, and the order the waits respect.
-/
module

public import proofs.«01_k».proof.Proof.Mesh

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources -/

abbrev UB : Type := URounds (GSem nD τ sig) Dir
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## Contents -/

/-- Device `c`'s block as its body finds it staged. -/
def xstg (c : Dev nD) : (cc0_stg0_0 : Ref sig .tc).ty.Contents (Elt F) :=
  (win0_0.blk (0 : Fin 1)).view.read (Elt F) ((s₀ m ρ).mem ((c : Thread nD τ).loc main_arg0))

/-- The six faces of a block, as the kernel cuts them: the first and the last plane along each axis. -/
def face (x : Vec F S16x16x16 .bf16) : Dir → (S16x16.Idx → Elt F .bf16)
  | 0 => shapeCast S16x16 (k0_pay2 x) shapeCasts_S1x16x16_S16x16
  | 1 => shapeCast S16x16 (k0_pay3 x) shapeCasts_S1x16x16_S16x16
  | 2 => shapeCast S16x16 (k0_pay4 x) shapeCasts_S1x16x16_S16x16
  | 3 => shapeCast S16x16 (k0_pay5 x) shapeCasts_S1x16x16_S16x16
  | 4 => shapeCast S16x16 (k0_pay6 x) shapeCasts_S1x16x16_S16x16
  | 5 => shapeCast S16x16 (k0_pay8 (k0_pay7 x)) shapeCasts_S1x16x16_S16x16

/-- A slot of device `c`, whatever it holds. -/
def slotAny (c : Dev nD) (M : Memref sig .tc .vmem S16x16 .bf16) : sProp 𝕄 :=
  iprop(∃ f : Buf (Elt F) (M.view.loc (c : Thread nD τ)), M.view.loc (c : Thread nD τ) ↦[M.view.set]{fullShare} f)

/-- A slot of device `c` holding the face `X`. -/
def slotAt (c : Dev nD) (M : Memref sig .tc .vmem S16x16 .bf16) (X : S16x16.Idx → Elt F .bf16) : sProp 𝕄 :=
  owns (Ix := Unit) (Name := ℕ) (U := UU) (Lvl := ℕ) (c : Thread nD τ) M fullShare X

omit [FloatOps F] in
instance slotAny_storable (c : Dev nD) (M) : BI.Storable (upEmb : UEmb _ 𝕄) (slotAny (F := F) c M) := by
  unfold slotAny; infer_instance
omit [FloatOps F] in
instance slotAt_storable (c : Dev nD) (M) (X) : BI.Storable (upEmb : UEmb _ 𝕄) (slotAt (F := F) c M X) := by
  unfold slotAt; infer_instance

omit [FloatOps F] in
theorem slotAt_any (c : Dev nD) (M) (X : S16x16.Idx → Elt F .bf16) : slotAt c M X ⊢ (slotAny c M : sProp 𝕄) := by
  unfold slotAt slotAny owns
  iintro ⟨%f, -, H⟩; iexists f; iexact H

/-! ## The schedule -/

/-- What a semaphore is for. -/
inductive Role
  | bar | snd (d : Dir) | rcv (d : Dir) | other
  deriving DecidableEq

def role : SemLoc sig → Role
  | .reg _ => .bar
  | .dma q => ![.other, .other, .snd 0, .snd 1, .snd 2, .snd 3, .snd 4, .snd 5,
      .rcv 0, .rcv 1, .rcv 2, .rcv 3, .rcv 4, .rcv 5] q

theorem role_bar : role (.reg barS) = .bar := rfl
theorem role_snd : ∀ d : Dir, role (.dma (sendS d)) = .snd d := by decide
theorem role_rcv : ∀ d : Dir, role (.dma (recvS d)) = .rcv d := by decide

/-- What the signal that reaches `c`'s barrier from direction `e` hands over: the neighbour's slot for `c`'s face. -/
def barPay (c : Dev nD) (e : Dir) : sProp 𝕄 :=
  if has c e then slotAny (nbr c e) (recvM (opp e)) else iprop(emp)
/-- What a completed send hands back, -/
def sendPay (c : Dev nD) (d : Dir) : sProp 𝕄 := slotAt c (sendM d) (face (xstg m ρ c) d)
/-- and a completed arrival: the slot holding the face of the neighbour in that direction. -/
def recvPay (c : Dev nD) (d : Dir) : sProp 𝕄 := slotAt c (recvM d) (face (xstg m ρ (nbr c d)) (opp d))

/-- One round. A barrier expects the six signals, one unit each; the two semaphores of a direction expect one face
    each, where the device has a neighbour in that direction, and nothing elsewhere. -/
def haloRd : Rounds.Schedule (GSem nD τ sig) Dir 𝕄 where
  duties g r := if r = 0 then
      (match role g.2 with
        | .bar => Finset.univ
        | .snd d => if has g.1.1 d then {0} else ∅
        | .rcv d => if has g.1.1 d then {0} else ∅
        | .other => ∅)
    else ∅
  unitless _ := False
  amount g _ _ := match role g.2 with | .bar => 1 | _ => N
  payload g _ e := match role g.2 with
    | .bar => barPay g.1.1 e
    | .snd d => sendPay m ρ g.1.1 d
    | .rcv d => recvPay m ρ g.1.1 d
    | .other => iprop(emp)
  amount_pos g _ _ _ := by
    split
    · exact Nat.one_pos
    · exact N_pos

instance haloRd_payload_storable (g : GSem nD τ sig) (r : ℕ) (e : Dir) :
    BI.Storable (upEmb : UEmb _ 𝕄) ((haloRd (F := F) m ρ).payload g r e) := by
  show BI.Storable upEmb (match role g.2 with
    | .bar => barPay g.1.1 e
    | .snd d => sendPay m ρ g.1.1 d
    | .rcv d => recvPay m ρ g.1.1 d
    | .other => iprop(emp))
  unfold barPay sendPay recvPay
  (repeat' split) <;> infer_instance

section Sched
variable (c : Dev nD) (d e : Dir)

theorem duties_bar : (haloRd (F := F) m ρ).duties (barCell c) 0 = Finset.univ := rfl
theorem duties_send : (haloRd (F := F) m ρ).duties (sendCell c d) 0 = if has c d then {0} else ∅ := by
  dsimp only [haloRd]; rw [role_snd]; rfl
theorem duties_recv : (haloRd (F := F) m ρ).duties (recvCell c d) 0 = if has c d then {0} else ∅ := by
  dsimp only [haloRd]; rw [role_rcv]; rfl
theorem duties_later (g : GSem nD τ sig) : ∀ r, 1 ≤ r → (haloRd (F := F) m ρ).duties g r = ∅ :=
  fun r hr => by dsimp only [haloRd]; rw [if_neg (by omega)]
theorem duties_send_none (h : has c d = false) : ∀ r, 0 ≤ r → (haloRd (F := F) m ρ).duties (sendCell c d) r = ∅ := by
  intro r _
  rcases Nat.eq_zero_or_pos r with rfl | hr
  · rw [duties_send, h]; rfl
  · exact duties_later m ρ _ r hr
theorem duties_recv_none (h : has c d = false) : ∀ r, 0 ≤ r → (haloRd (F := F) m ρ).duties (recvCell c d) r = ∅ := by
  intro r _
  rcases Nat.eq_zero_or_pos r with rfl | hr
  · rw [duties_recv, h]; rfl
  · exact duties_later m ρ _ r hr

theorem amount_bar : (haloRd (F := F) m ρ).amount (barCell c) 0 e = 1 := rfl
theorem amount_send : (haloRd (F := F) m ρ).amount (sendCell c d) 0 e = N := by dsimp only [haloRd]; rw [role_snd]
theorem amount_recv : (haloRd (F := F) m ρ).amount (recvCell c d) 0 e = N := by dsimp only [haloRd]; rw [role_rcv]

theorem expect_bar : (haloRd (F := F) m ρ).expect (barCell c) 0 = 6 := by
  unfold Schedule.expect Schedule.amountOf
  rw [duties_bar, Finset.sum_congr rfl fun e _ => amount_bar m ρ c e, Finset.sum_const, Finset.card_univ, Fintype.card_fin]; rfl
theorem expect_send (h : has c d = true) : (haloRd (F := F) m ρ).expect (sendCell c d) 0 = N := by
  unfold Schedule.expect Schedule.amountOf; rw [duties_send, if_pos h, Finset.sum_singleton, amount_send]
theorem expect_recv (h : has c d = true) : (haloRd (F := F) m ρ).expect (recvCell c d) 0 = N := by
  unfold Schedule.expect Schedule.amountOf; rw [duties_recv, if_pos h, Finset.sum_singleton, amount_recv]

theorem payload_bar : (haloRd (F := F) m ρ).payload (barCell c) 0 e = barPay c e := rfl
theorem payload_send : (haloRd (F := F) m ρ).payload (sendCell c d) 0 e = sendPay m ρ c d := by
  dsimp only [haloRd]; rw [role_snd]
theorem payload_recv : (haloRd (F := F) m ρ).payload (recvCell c d) 0 e = recvPay m ρ c d := by
  dsimp only [haloRd]; rw [role_rcv]

/-- All six signals of a barrier: the six slots they hand over. -/
theorem rest_bar : bigSep ((haloRd (F := F) m ρ).duties (barCell c) 0 \ ∅) (fun e => (haloRd (F := F) m ρ).payload (barCell c) 0 e)
    = iprop(barPay c 0 ∗ barPay c 1 ∗ barPay c 2 ∗ barPay c 3 ∗ barPay c 4 ∗ barPay c 5) := by
  rw [Finset.sdiff_empty, duties_bar, bigSep_univ_eq_bigSepL [0, 1, 2, 3, 4, 5] (by decide) (by decide)]
  rfl
theorem rest_send (h : has c d = true) :
    bigSep ((haloRd (F := F) m ρ).duties (sendCell c d) 0 \ ∅) (fun e => (haloRd (F := F) m ρ).payload (sendCell c d) 0 e) = sendPay m ρ c d := by
  rw [Finset.sdiff_empty, duties_send, if_pos h, bigSep_singleton, payload_send]
theorem rest_recv (h : has c d = true) :
    bigSep ((haloRd (F := F) m ρ).duties (recvCell c d) 0 \ ∅) (fun e => (haloRd (F := F) m ρ).payload (recvCell c d) 0 e) = recvPay m ρ c d := by
  rw [Finset.sdiff_empty, duties_recv, if_pos h, bigSep_singleton, payload_recv]

end Sched

/-! ## What a device owes at launch -/

/-- The unit owed to the barrier in direction `d`, -/
def oweBar (c : Dev nD) (d : Dir) : CellTallies nD τ sig Unit := tallyAt (barCell (nbr c d)) () 1
/-- and the face owed to the neighbour there: nothing where there is none. -/
def oweFace (c : Dev nD) (d : Dir) : CellTallies nD τ sig Unit :=
  tallyAt (recvCell (nbr c d) (opp d)) () (if has c d then N else 0)

/-- The faces owed in a list of directions, the first of them last in the sum, so that the sends take it apart one by one; -/
def oweFaces (c : Dev nD) : List Dir → CellTallies nD τ sig Unit
  | [] => 0
  | d :: l => oweFaces c l + oweFace c d
/-- on top of the faces, the units owed in a list of directions. -/
def oweBars (c : Dev nD) : List Dir → CellTallies nD τ sig Unit
  | [] => oweFaces c [0, 1, 2, 3, 4, 5]
  | d :: l => oweBars c l + oweBar c d

/-- All that device `c` owes at launch. -/
def O₀ (c : Dev nD) : CellTallies nD τ sig Unit := oweBars c [0, 1, 2, 3, 4, 5]

def L (g : GSem nD τ sig) : Finset Unit := if g.1.2 = .tc then {()} else ∅
/-- Barriers come before arrivals; all else before both. -/
def lv (g : GSem nD τ sig) (_ : Unit) : ℕ := match role g.2 with | .bar => 1 | .rcv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl

theorem oweFace_pos {c : Dev nD} {d : Dir} {g : GSem nD τ sig} {u : Unit} (h : 0 < oweFace c d g u) :
    g = recvCell (nbr c d) (opp d) := by
  unfold oweFace at h
  rw [tallyAt_apply] at h
  by_contra hn
  rw [if_neg (fun h' => hn h'.1)] at h
  exact Nat.lt_irrefl 0 h
theorem oweBar_pos {c : Dev nD} {d : Dir} {g : GSem nD τ sig} {u : Unit} (h : 0 < oweBar c d g u) :
    g = barCell (nbr c d) := by
  unfold oweBar at h
  rw [tallyAt_apply] at h
  by_contra hn
  rw [if_neg (fun h' => hn h'.1)] at h
  exact Nat.lt_irrefl 0 h

/-- Faces are owed to arrival semaphores only, -/
theorem oweFaces_pos {c : Dev nD} {g : GSem nD τ sig} {u : Unit} : ∀ l : List Dir, 0 < oweFaces c l g u →
    ∃ d, g = recvCell (nbr c d) (opp d)
  | [], h => absurd h (by unfold oweFaces; exact Nat.lt_irrefl 0)
  | d :: l, h => by
    have h : 0 < oweFaces c l g u + oweFace c d g u := h
    rcases Nat.eq_zero_or_pos (oweFaces c l g u) with h0 | hp
    · exact ⟨d, oweFace_pos (by rwa [h0, Nat.zero_add] at h)⟩
    · exact oweFaces_pos l hp
/-- and all else to barriers. -/
theorem oweBars_pos {c : Dev nD} {g : GSem nD τ sig} {u : Unit} : ∀ l : List Dir, 0 < oweBars c l g u →
    (∃ d, g = recvCell (nbr c d) (opp d)) ∨ ∃ d, g = barCell (nbr c d)
  | [], h => .inl (oweFaces_pos _ h)
  | d :: l, h => by
    have h : 0 < oweBars c l g u + oweBar c d g u := h
    rcases Nat.eq_zero_or_pos (oweBars c l g u) with h0 | hp
    · exact .inr ⟨d, oweBar_pos (by rwa [h0, Nat.zero_add] at h)⟩
    · exact oweBars_pos l hp

theorem lv_recv (c : Dev nD) (d : Dir) (u : Unit) : lv (recvCell c d) u = 2 := by unfold lv; rw [role_rcv]
theorem lv_bar (c : Dev nD) (u : Unit) : lv (barCell c) u = 1 := rfl

omit [FloatOps F] in
/-- A wait on a semaphore of the lowest order, whatever of the launch's debts is still owed. -/
theorem mayWait_low (c : Dev nD) (q : DmaSem sig) (hq : role (.dma q) = .other) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases oweBars_pos _ hg with ⟨d, rfl⟩ | ⟨d, rfl⟩ <;> exact Finset.mem_singleton_self _)
      (fun p hp => by rw [Finset.mem_singleton.mp hp]; dsimp only [lv]; rw [hq])
      (fun g u hg => by
        rcases oweBars_pos _ hg with ⟨d, rfl⟩ | ⟨d, rfl⟩
        · rw [lv_recv]; decide
        · rw [lv_bar]; decide)
  · rw [MayWait_zero]; iintro -; iempintro

omit [FloatOps F] in
/-- At its barrier a device owes faces only. -/
theorem mayWait_bar (c : Dev nD) (l : List Dir) :
    (levAts L lv : sProp 𝕄) ⊢ MayWait (c : Thread nD τ) (.reg barS) () (oweFaces c l) :=
  MayOwe.of_cut (L := L) (lev := lv) 1 (fun p hp => by rw [Finset.mem_singleton.mp hp, L_tc]; exact Finset.mem_singleton_self _)
    (fun g u hg => by obtain ⟨d, rfl⟩ := oweFaces_pos _ hg; exact Finset.mem_singleton_self _)
    (fun p hp => by rw [Finset.mem_singleton.mp hp]; dsimp only [lv]; rw [role_bar])
    (fun g u hg => by obtain ⟨d, rfl⟩ := oweFaces_pos _ hg; rw [lv_recv]; decide)

end Cert.Halo

end
-- ==== Proof.Steps.lean ====
/-
# The six-direction halo exchange: one rule per kind of step

Each kind of step the kernel takes for a direction — signal the neighbour, signal itself in the neighbour's stead, send
a face, await an arrival, await a send — is stated here once, for an arbitrary direction. The kernel makes each under a
test of whether the neighbour exists, so each rule is about the tested step: what it needs and gives depends on that.
Two more rules are about writing and reading one slot.
-/
module

public import proofs.«01_k».proof.Proof.Protocol

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "ℙ" => Prog (TpuEff nD τ sig (Elt F) Λ₀ Proc.tc)

abbrev 𝒱₀ : Variants := Variants.none

variable (m : (ℓ : Loc nD τ sig) → Buf (Elt F) ℓ) (ρ : Dev nD → PrngReg) (K : Dev nD × Fin 13 → ℕ)

/-! ## The records: every cell's invariant, and that its only round is open -/

def Rec : sProp 𝕄 :=
  bigSep Finset.univ fun ck : Dev nD × Fin 13 => iprop(cellInv ER (haloRd m ρ) (K ck) (kcell ck) ∗ reached ER (kcell ck) 0)

instance Rec_persistent : BI.Persistent (Rec m ρ K) := by unfold Rec; infer_instance

theorem rec_cell (ck : Dev nD × Fin 13) :
    Rec m ρ K ⊢ iprop(cellInv ER (haloRd m ρ) (K ck) (kcell ck) ∗ reached ER (kcell ck) 0) := by
  unfold Rec
  rw [bigSep_erase (Finset.mem_univ ck)]
  show iprop(iprop(cellInv ER (haloRd m ρ) (K ck) (kcell ck) ∗ reached ER (kcell ck) 0) ∗ bigSep _ _) ⊢ _
  iintro ⟨H, -⟩; iexact H
theorem rec_bar (c : Dev nD) :
    Rec m ρ K ⊢ iprop(cellInv ER (haloRd m ρ) (K (c, 0)) (barCell c) ∗ reached ER (barCell c) 0) := rec_cell m ρ K (c, 0)
theorem rec_send (c : Dev nD) (d : Dir) :
    Rec m ρ K ⊢ iprop(cellInv ER (haloRd m ρ) (K (c, sIx d)) (sendCell c d) ∗ reached ER (sendCell c d) 0) := by
  rw [← kcell_s]; exact rec_cell m ρ K (c, sIx d)
theorem rec_recv (c : Dev nD) (d : Dir) :
    Rec m ρ K ⊢ iprop(cellInv ER (haloRd m ρ) (K (c, rIx d)) (recvCell c d) ∗ reached ER (recvCell c d) 0) := by
  rw [← kcell_r]; exact rec_cell m ρ K (c, rIx d)

/-- Device `c` owes `O`, whatever it has waited on. -/
def owing (c : Dev nD) (O : CellTallies nD τ sig Unit) : sProp 𝕄 := iprop(∃ W : Waits sig Unit, owes (c : Thread nD τ) O W)

/-! ## Signals -/

/-- What the signal of direction `d` to device `c`'s neighbour takes. -/
def toSignal (c : Dev nD) (d : Dir) : sProp 𝕄 :=
  iprop(dutyTok ER (barCell (nbr c d)) 0 (key c d) ∗ slotAny c (recvM d))
/-- Between the two tests of direction `d`: the unit owed there is paid where there is a neighbour, and still owed,
    with all that paying it takes, where there is none. -/
def halfway (c : Dev nD) (d : Dir) (O : CellTallies nD τ sig Unit) : sProp 𝕄 :=
  if has c d then owing c O else iprop(owing c (O + oweBar c d) ∗ toSignal c d)
/-- The landing slot of direction `d`, where no neighbour was given it. -/
def kept (c : Dev nD) (d : Dir) : sProp 𝕄 := if has c d then iprop(emp) else slotAny c (recvM d)

/-- A signal to the neighbour in direction `d`: it hands over this device's landing slot of that direction. -/
theorem signal_neighbour (c : Dev nD) (d : Dir) {P : Prop} [Decidable P] (hP : P ↔ has c d = true) (dv : P → Dev nD)
    (hdv : ∀ h, dv h = nbr c d) (O : CellTallies nD τ sig Unit) {α : Type} (p : ℙ α) (Q : α → sProp 𝕄) :
    iprop(Rec m ρ K ∗ owing c (O + oweBar c d) ∗ toSignal c d)
      ⊢ iprop((halfway c d O -∗ wp frame (wpE (defs₀ (F := F)) 𝒱₀ (c : Thread nD τ) none) Set.univ p Q)
        -∗ wp frame (wpE (defs₀ (F := F)) 𝒱₀ (c : Thread nD τ) none) Set.univ
            (if h : P then (semSignalWord (dv h) barS 1#32 >>= fun _ => p) else p) Q) := by
  unfold halfway
  by_cases hh : has c d = true
  · rw [dif_pos (hP.mpr hh), if_pos hh, hdv]
    simp only [semSignalWord, Prog.bind_op, Prog.bind_ret]
    unfold owing toSignal
    iintro ⟨#HR, ⟨%W, HO⟩, Ht, Hs⟩ Hk
    ihave #Hc := (rec_bar m ρ K (nbr c d)) $$ HR
    icases Hc with ⟨HI, Hr⟩
    unfold oweBar
    iapply (Rounds.wp_signal 𝒱₀ ER (haloRd m ρ) (c : Thread nD τ) none (dst := (nbr c d : Thread nD τ)) (κ := K (nbr c d, 0))
        (d := key c d) (by rw [duties_bar]; exact Finset.mem_univ _) ((amount_bar m ρ (nbr c d) (key c d)).trans (by decide)) () O rfl)
      $$ [HO Ht Hs]
    · isplitr; · iexact HI
      isplitl [HO]; · iexact HO
      isplitl [Ht]; · iexact Ht
      isplitl [Hs]
      · rw [payload_bar, key_of_has hh]; unfold barPay
        rw [if_pos (has_opp c d hh), nbr_opp c d hh, opp_opp]; iexact Hs
      iexact Hr
    iintro HO
    iapply Hk; iexists W; iexact HO
  · rw [dif_neg (fun h => hh (hP.mp h)), if_neg hh]
    iintro ⟨-, H⟩ Hk
    iapply Hk; iexact H

/-- The signal a device sends itself where it has no neighbour: nothing is handed over. -/
theorem signal_self (c : Dev nD) (d : Dir) {P : Prop} [Decidable P] (hP : P ↔ has c d = false)
    (O : CellTallies nD τ sig Unit) {α : Type} (p : ℙ α) (Q : α → sProp 𝕄) :
    iprop(Rec m ρ K ∗ halfway c d O)
      ⊢ iprop((iprop(owing c O ∗ kept c d) -∗ wp frame (wpE (defs₀ (F := F)) 𝒱₀ (c : Thread nD τ) none) Set.univ p Q)
        -∗ wp frame (wpE (defs₀ (F := F)) 𝒱₀ (c : Thread nD τ) none) Set.univ
            (if h : P then (semSignalHereWord barS 1#32 >>= fun _ => p) else p) Q) := by
  unfold halfway kept
  cases hh : has c d
  · have hn : ¬ ((false : Bool) = true) := by decide
    rw [dif_pos (hP.mpr hh), if_neg hn, if_neg hn]
    simp only [semSignalHereWord, Prog.bind_op, Prog.bind_ret, wp_deviceId]
    unfold toSignal owing oweBar
    rw [nbr_of_not hh, key_of_not hh]
    iintro ⟨#HR, ⟨%W, HO⟩, Ht, Hs⟩ Hk
    ihave #Hc := (rec_bar m ρ K c) $$ HR
    icases Hc with ⟨HI, Hr⟩
    iapply (Rounds.wp_signal 𝒱₀ ER (haloRd m ρ) (c : Thread nD τ) none (dst := (c : Thread nD τ)) (κ := K (c, 0))
        (d := d) (by rw [duties_bar]; exact Finset.mem_univ _) ((amount_bar m ρ c d).trans (by decide)) () O rfl)
      $$ [HO Ht]
    · isplitr; · iexact HI
      isplitl [HO]; · iexact HO
      isplitl [Ht]; · iexact Ht
      isplitr
      · rw [payload_bar]; unfold barPay
        rw [hh, if_neg hn]; iempintro
      iexact Hr
    iintro HO
    iapply Hk
    isplitl [HO]
    · iexists W; iexact HO
    iexact Hs
  · rw [dif_neg (fun h => by rw [hP.mp h] at hh; exact absurd hh (by decide)), if_pos rfl, if_pos rfl]
    iintro ⟨-, H⟩ Hk
    iapply Hk
    isplitl [H]; · iexact H
    iempintro

/-- The wait for the six signals: every neighbour's slot comes with it. -/
theorem await_barrier (c : Dev nD) {α : Type} (p : ℙ α) (Q : α → sProp 𝕄) :
    iprop(Rec m ρ K ∗ levAts L lv ∗ owing c (oweFaces c [0, 1, 2, 3, 4, 5]) ∗ cred (tallyAt (barCell c) () 6) ∗ atPos ER (barCell c) 0 ∅ 0)
      ⊢ iprop((iprop(owing c (oweFaces c [0, 1, 2, 3, 4, 5]) ∗ semVal (barCell c) 0
            ∗ barPay c 0 ∗ barPay c 1 ∗ barPay c 2 ∗ barPay c 3 ∗ barPay c 4 ∗ barPay c 5)
          -∗ wp frame (wpE (defs₀ (F := F)) 𝒱₀ (c : Thread nD τ) none) Set.univ p Q)
        -∗ wp frame (wpE (defs₀ (F := F)) 𝒱₀ (c : Thread nD τ) none) Set.univ (semWaitWord barS 6#32 >>= fun _ => p) Q) := by
  simp only [semWaitWord, Prog.bind_op, Prog.bind_ret]
  unfold owing
  iintro ⟨#HR, #Hlev, ⟨%W, HO⟩, Hcr, Hat⟩ Hk
  ihave #Hc := (rec_bar m ρ K c) $$ HR
  icases Hc with ⟨HI, -⟩
  iapply (Rounds.wp_wait_rest_token 𝒱₀ ER (haloRd m ρ) (c : Thread nD τ) none (κ := K (c, 0))
      (wpE_semWait_eq 𝒱₀ (c : Thread nD τ) none Set.univ) (Set.mem_univ _) () (O := oweFaces c [0, 1, 2, 3, 4, 5]) (W := W) (R := 0) (m := 0) (T := ∅)
      (by rw [expect_bar]; decide)) $$ [Hcr HO Hat]
  · isplitr; · iexact HI
    isplitl [Hcr]; · iexact Hcr
    isplitl [HO]; · iexact HO
    isplitr; · iapply (mayWait_bar c); iexact Hlev
    iexact Hat
  iintro ⟨HO, Hat, -, Hpay⟩
  imod (Rounds.cell_close ER (haloRd m ρ) (Set.mem_univ (K (c, 0))) (fun h => h) (R := 0 + 1) (duties_later m ρ (barCell c))) $$ [Hat] with Hz
  · isplitr; · iexact HI
    iexact Hat
  ihave Hp := (Entails.of_eq (rest_bar m ρ c)) $$ Hpay
  iapply Hk
  isplitl [HO]; · iexists _; iexact HO
  isplitl [Hz]; · iexact Hz
  iexact Hp

/-! ## Faces -/

/-- What the send of direction `d` takes. -/
def toSend (c : Dev nD) (d : Dir) : sProp 𝕄 :=
  iprop(slotAt c (sendM d) (face (xstg m ρ c) d) ∗ barPay c d ∗ dutyTok ER (sendCell c d) 0 0 ∗ dutyTok ER (recvCell (nbr c d) (key c d)) 0 0)
/-- After it: the right to await it where there is a neighbour, else the slot as it was. -/
def sent (c : Dev nD) (d : Dir) : sProp 𝕄 :=
  if has c d then cred (tallyAt (sendCell c d) () N) else slotAny c (sendM d)
/-- The landing slot of direction `d` once awaited: it holds the neighbour's face, where there is one, else anything. -/
def landed (c : Dev nD) (d : Dir) (X : S16x16.Idx → Elt F .bf16) : sProp 𝕄 :=
  iprop(⌜has c d = true → X = face (xstg m ρ (nbr c d)) (opp d)⌝ ∗ slotAt c (recvM d) X)

omit [FloatOps F] in
/-- A slot holds something. -/
theorem slotAny_at (c : Dev nD) (M : Memref sig .tc .vmem S16x16 .bf16) : slotAny c M ⊢ (iprop(∃ X, slotAt c M X) : sProp 𝕄) := by
  unfold slotAny slotAt owns
  iintro ⟨%f, H⟩
  iexists _; iexists f
  isplitr; · ipureintro; rfl
  iexact H

/-- A slot that holds the face of direction `d` is what that send hands back, -/
theorem pay_sent (c : Dev nD) (d : Dir) (fs : Buf (Elt F) ((sendM d).view.loc (c : Thread nD τ)))
    (hfs : (sendM d).view.read (Elt F) fs = face (xstg m ρ c) d) :
    ((sendM d).view.loc (c : Thread nD τ) ↦[(sendM d).view.set]{fullShare} fs : sProp 𝕄)
      ⊢ (haloRd m ρ).payload (sendCell c d) 0 0 := by
  rw [payload_send]; unfold sendPay slotAt
  rw [← hfs]
  exact owns_intro (c : Thread nD τ) (sendM d) fullShare fs
/-- and written to the neighbour's slot it is what the arrival there hands over. -/
theorem pay_arrived {c : Dev nD} {d : Dir} (h : has c d = true) (fs : Buf (Elt F) ((sendM d).view.loc (c : Thread nD τ)))
    (fd : Buf (Elt F) ((recvM (opp d)).view.loc (nbr c d : Thread nD τ))) (hfs : (sendM d).view.read (Elt F) fs = face (xstg m ρ c) d) :
    ((recvM (opp d)).view.loc (nbr c d : Thread nD τ) ↦[(recvM (opp d)).view.set]{fullShare}
        (recvM (opp d)).view.write (Elt F) fd ((sendM d).view.read (Elt F) fs) Finset.univ : sProp 𝕄)
      ⊢ (haloRd m ρ).payload (recvCell (nbr c d) (opp d)) 0 0 := by
  rw [payload_recv]; unfold recvPay slotAt
  rw [nbr_opp c d h, opp_opp, ← hfs]
  refine (owns_intro (nbr c d : Thread nD τ) (recvM (opp d)) fullShare _).trans (Entails.of_eq ?_)
  rw [View.read_write_univ]

/-- The send of a face to the neighbour in direction `d`. -/
theorem send_face (c : Dev nD) (d : Dir) {P : Prop} [Decidable P] (hP : P ↔ has c d = true) (dv : P → Dev nD)
    (hdv : ∀ h, dv h = nbr c d) (O : CellTallies nD τ sig Unit)
    {src dst : Memref sig .tc .vmem S16x16 .bf16} {q q' : DmaSem sig}
    (hs : src = sendM d) (hd : dst = recvM (opp d)) (hq : q = sendS d) (hq' : q' = recvS (opp d))
    {hsrc : src.view.WordExact} {hdst : dst.view.WordExact}
    {hsc : ∀ h : P, (dst : Memref sig (Dev.tc (dv h) : Thread nD τ).2.kind .vmem S16x16 .bf16).view.ref.isScScratch = false}
    {hsem : ∀ h : P, DmaTarget.Typed .vmem (.dma q') (.remote (Dev.tc (dv h) : Thread nD τ) dst (.dma q) (hsc h))}
    {α : Type} (p : ℙ α) (Q : α → sProp 𝕄) :
    iprop(Rec m ρ K ∗ owing c (O + oweFace c d) ∗ toSend m ρ c d)
      ⊢ iprop((iprop(owing c O ∗ sent c d) -∗ wp frame (wpE (defs₀ (F := F)) 𝒱₀ (c : Thread nD τ) none) Set.univ p Q)
        -∗ wp frame (wpE (defs₀ (F := F)) 𝒱₀ (c : Thread nD τ) none) Set.univ
            (if h : P then (Prog.lift (.enqueueDma src (.remote (Dev.tc (dv h) : Thread nD τ) dst (.dma q) (hsc h)) (.dma q') hsrc hdst (hsem h)) >>= fun _ => p) else p) Q) := by
  unfold sent toSend
  by_cases hh : has c d = true
  · have h := hP.mpr hh
    rw [dif_pos h, if_pos hh]
    have hkey := key_of_has hh
    generalize hsem h = hsem'
    revert hsem'
    generalize hsc h = hsc'
    revert hsc'
    generalize dv h = n, hdv h = hn
    intro hsc' hsem'
    subst hn hs hd hq hq'
    simp only [Prog.lift, Prog.bind_op, Prog.bind_ret]
    unfold owing slotAt barPay oweFace
    rw [if_pos hh, if_pos hh, hkey]
    unfold slotAny owns
    iintro ⟨#HR, ⟨%W, HO⟩, ⟨%fs, %hfs, Hs⟩, ⟨%fd, Hd⟩, Hts, Htr⟩ Hk
    ihave #Hc := (rec_send m ρ K c d) $$ HR
    ihave #Hc' := (rec_recv m ρ K (nbr c d) (opp d)) $$ HR
    icases Hc with ⟨HI, Hr⟩
    icases Hc' with ⟨HI', Hr'⟩
    have ho : has (nbr c d) (opp d) = true := has_opp c d hh
    iapply (Rounds.wp_send_pointsTo 𝒱₀ ER (haloRd m ρ) (c : Thread nD τ) none (κ₁ := K (c, sIx d)) (κ₂ := K (nbr c d, rIx (opp d)))
        (c' := (nbr c d : Thread nD τ)) (src := sendM d) (dst := recvM (opp d)) (sS := .dma (sendS d)) (sem := .dma (recvS (opp d))) (q := fullShare)
        (r₁ := 0) (r₂ := 0) (d₁ := 0) (d₂ := 0) (fs := fs) (fd := fd)
        (by rw [duties_send, if_pos hh]; exact Finset.mem_singleton_self _) (by rw [duties_recv, if_pos ho]; exact Finset.mem_singleton_self _)
        () () N (by exact credit_recv (opp d)) (amount_send m ρ c d 0) (amount_recv m ρ (nbr c d) (opp d) 0) O rfl (W := W)
        (pay_sent m ρ c d fs hfs) (pay_arrived m ρ hh fs fd hfs)) $$ [Hs Hd HO Hts Htr]
    · isplitr; · iexact HI
      isplitr; · iexact HI'
      isplitl [Hs]; · iexact Hs
      isplitl [Hd]; · iexact Hd
      isplitl [HO]; · iexact HO
      isplitl [Hts]; · iexact Hts
      isplitr; · iexact Hr
      isplitl [Htr]; · iexact Htr
      iexact Hr'
    iintro ⟨Hcr, HO⟩
    iapply Hk
    isplitl [HO]; · iexists W; iexact HO
    iexact Hcr
  · rw [dif_neg (fun h => hh (hP.mp h)), if_neg hh]
    unfold oweFace
    rw [if_neg hh, tallyAt_zero, add_zero]
    iintro ⟨-, HO, Hs, -⟩ Hk
    iapply Hk
    isplitl [HO]; · iexact HO
    iapply (slotAt_any c (sendM d) _); iexact Hs

/-- The wait for the face of the neighbour in direction `d`. -/
theorem await_arrival (c : Dev nD) (d : Dir) {P : Prop} [Decidable P] (hP : P ↔ has c d = true)
    {src dst : Memref sig .tc .vmem S16x16 .bf16} {q : DmaSem sig} (hd : dst = recvM d) (hq : q = recvS d)
    {hsrc : src.view.WordExact} {hdst : dst.view.WordExact} {α : Type} (p : ℙ α) (Q : α → sProp 𝕄) :
    iprop(Rec m ρ K ∗ owing c 0 ∗ cred (tallyAt (recvCell c d) () (if has c d then N else 0)) ∗ atPos ER (recvCell c d) 0 ∅ 0 ∗ kept c d)
      ⊢ iprop((iprop(owing c 0 ∗ semVal (recvCell c d) 0 ∗ ∃ X, landed m ρ c d X)
          -∗ wp frame (wpE (defs₀ (F := F)) 𝒱₀ (c : Thread nD τ) none) Set.univ p Q)
        -∗ wp frame (wpE (defs₀ (F := F)) 𝒱₀ (c : Thread nD τ) none) Set.univ
            (if h : P then (Prog.lift (.waitDma2 q src dst hsrc hdst) >>= fun _ => p) else p) Q) := by
  unfold kept landed
  subst hd hq
  cases hh : has c d
  · have hn : ¬ ((false : Bool) = true) := by decide
    rw [dif_neg (fun h => by rw [hP.mp h] at hh; exact absurd hh (by decide)), if_neg hn, if_neg hn]
    iintro ⟨#HR, HO, -, Hat, Hs⟩ Hk
    ihave #Hc := (rec_recv m ρ K c d) $$ HR
    icases Hc with ⟨HI, -⟩
    imod (Rounds.cell_close ER (haloRd m ρ) (Set.mem_univ (K (c, rIx d))) (fun h => h) (R := 0) (duties_recv_none m ρ c d hh)) $$ [Hat] with Hz
    · isplitr; · iexact HI
      iexact Hat
    iapply Hk
    isplitl [HO]; · iexact HO
    isplitl [Hz]; · iexact Hz
    ihave Hs := (slotAny_at c (recvM d)) $$ Hs
    icases Hs with ⟨%X, Hs⟩
    iexists X
    isplitr; · ipureintro; exact fun h => absurd h hn
    iexact Hs
  · rw [dif_pos (hP.mpr hh), if_pos rfl, if_pos rfl]
    simp only [Prog.lift, Prog.bind_op, Prog.bind_ret]
    unfold owing
    iintro ⟨#HR, ⟨%W, HO⟩, Hcr, Hat, -⟩ Hk
    ihave #Hc := (rec_recv m ρ K c d) $$ HR
    icases Hc with ⟨HI, -⟩
    rw [← credit_recv d]
    iapply (Rounds.wp_wait_rest_token 𝒱₀ ER (haloRd m ρ) (c : Thread nD τ) none (κ := K (c, rIx d))
        (wpE_waitDma2_eq 𝒱₀ (c : Thread nD τ) none Set.univ) (Set.mem_univ _) () (O := 0) (W := W) (R := 0) (m := 0) (T := ∅)
        (by rw [Nat.zero_add, expect_recv m ρ c d hh, credit_recv])) $$ [Hcr HO Hat]
    · isplitr; · iexact HI
      isplitl [Hcr]; · iexact Hcr
      isplitl [HO]; · iexact HO
      isplitr; · rw [MayWait_zero]; iempintro
      iexact Hat
    iintro ⟨HO, Hat, -, Hpay⟩
    imod (Rounds.cell_close ER (haloRd m ρ) (Set.mem_univ (K (c, rIx d))) (fun h => h) (R := 0 + 1) (duties_later m ρ (recvCell c d))) $$ [Hat] with Hz
    · isplitr; · iexact HI
      iexact Hat
    ihave Hp := (Entails.of_eq (rest_recv m ρ c d hh)) $$ Hpay
    iapply Hk
    isplitl [HO]; · iexists _; iexact HO
    isplitl [Hz]; · iexact Hz
    iexists (face (xstg m ρ (nbr c d)) (opp d))
    isplitr; · ipureintro; exact fun _ => rfl
    unfold recvPay; iexact Hp

/-- The wait for the send of direction `d`: its slot is the device's again. -/
theorem await_send (c : Dev nD) (d : Dir) {P : Prop} [Decidable P] (hP : P ↔ has c d = true)
    {src dst : Memref sig .tc .vmem S16x16 .bf16} {q : DmaSem sig} (hd : dst = sendM d) (hq : q = sendS d)
    {hsrc : src.view.WordExact} {hdst : dst.view.WordExact} {α : Type} (p : ℙ α) (Q : α → sProp 𝕄) :
    iprop(Rec m ρ K ∗ owing c 0 ∗ sent c d ∗ atPos ER (sendCell c d) 0 ∅ 0)
      ⊢ iprop((iprop(owing c 0 ∗ semVal (sendCell c d) 0 ∗ slotAny c (sendM d))
          -∗ wp frame (wpE (defs₀ (F := F)) 𝒱₀ (c : Thread nD τ) none) Set.univ p Q)
        -∗ wp frame (wpE (defs₀ (F := F)) 𝒱₀ (c : Thread nD τ) none) Set.univ
            (if h : P then (Prog.lift (.waitDma2 q src dst hsrc hdst) >>= fun _ => p) else p) Q) := by
  unfold sent
  subst hd hq
  cases hh : has c d
  · have hn : ¬ ((false : Bool) = true) := by decide
    rw [dif_neg (fun h => by rw [hP.mp h] at hh; exact absurd hh (by decide)), if_neg hn]
    iintro ⟨#HR, HO, Hs, Hat⟩ Hk
    ihave #Hc := (rec_send m ρ K c d) $$ HR
    icases Hc with ⟨HI, -⟩
    imod (Rounds.cell_close ER (haloRd m ρ) (Set.mem_univ (K (c, sIx d))) (fun h => h) (R := 0) (duties_send_none m ρ c d hh)) $$ [Hat] with Hz
    · isplitr; · iexact HI
      iexact Hat
    iapply Hk
    isplitl [HO]; · iexact HO
    isplitl [Hz]; · iexact Hz
    iexact Hs
  · rw [dif_pos (hP.mpr hh), if_pos rfl]
    simp only [Prog.lift, Prog.bind_op, Prog.bind_ret]
    unfold owing
    iintro ⟨#HR, ⟨%W, HO⟩, Hcr, Hat⟩ Hk
    ihave #Hc := (rec_send m ρ K c d) $$ HR
    icases Hc with ⟨HI, -⟩
    rw [← credit_send d]
    iapply (Rounds.wp_wait_rest_token 𝒱₀ ER (haloRd m ρ) (c : Thread nD τ) none (κ := K (c, sIx d))
        (wpE_waitDma2_eq 𝒱₀ (c : Thread nD τ) none Set.univ) (Set.mem_univ _) () (O := 0) (W := W) (R := 0) (m := 0) (T := ∅)
        (by rw [Nat.zero_add, expect_send m ρ c d hh, credit_send])) $$ [Hcr HO Hat]
    · isplitr; · iexact HI
      isplitl [Hcr]; · iexact Hcr
      isplitl [HO]; · iexact HO
      isplitr; · rw [MayWait_zero]; iempintro
      iexact Hat
    iintro ⟨HO, Hat, -, Hpay⟩
    imod (Rounds.cell_close ER (haloRd m ρ) (Set.mem_univ (K (c, sIx d))) (fun h => h) (R := 0 + 1) (duties_later m ρ (sendCell c d))) $$ [Hat] with Hz
    · isplitr; · iexact HI
      iexact Hat
    ihave Hp := (Entails.of_eq (rest_send m ρ c d hh)) $$ Hpay
    iapply Hk
    isplitl [HO]; · iexists _; iexact HO
    isplitl [Hz]; · iexact Hz
    iapply (slotAt_any c (sendM d) (face (xstg m ρ c) d)); unfold sendPay; iexact Hp

/-! ## Slots -/

/-- Slot `k` of a two-slot buffer, as a face. -/
abbrev slotOf (M : Memref sig .tc .vmem S2x16x16 .bf16) (k : ℕ) (inb : ∀ a, (![k, 0, 0] : Fin 3 → ℕ) a + S1x16x16.size a ≤ S2x16x16.size a) :
    Memref sig .tc .vmem S16x16 .bf16 :=
  (M.slice (Rect.unit (s := S2x16x16) ![k, 0, 0] S1x16x16.size inb) (fun _ => rfl)).squeeze S16x16 squeezes_S1x16x16_S16x16

omit [FloatOps F] in
/-- A face read through the slot, and read as one row of its buffer. -/
theorem slot_read (M : Memref sig .tc .vmem S2x16x16 .bf16) (k : ℕ) (inb) (f : M.view.ty.Contents (Elt F)) :
    (M.access (Rect.unit (s := S2x16x16) ![k, 0, 0] S1x16x16.size inb)).read (Elt F) f
      = shapeCast S1x16x16 ((slotOf M k inb).view.read (Elt F) f) shapeCasts_S16x16_S1x16x16 := by
  funext j
  show _ = (M.access (Rect.unit (s := S2x16x16) ![k, 0, 0] S1x16x16.size inb)).read (Elt F) f (Shape.reshapeEquiv _ (Shape.reshapeEquiv _ j))
  rw [Shape.reshapeEquiv_reshapeEquiv, Shape.reshapeEquiv_self]

/-- A face stored into a slot as one row of its buffer (the row read first, and what is read dropped). -/
theorem store_slot (c : Dev nD) (M : Memref sig .tc .vmem S2x16x16 .bf16) (k : ℕ) (inb)
    {hl : M.view.LoadsAt (Rect.unit (s := S2x16x16) ![k, 0, 0] S1x16x16.size inb).toLoadRect}
    (w : S1x16x16.Idx → Elt F .bf16)
    {hx : (M.access (Rect.unit (s := S2x16x16) ![k, 0, 0] S1x16x16.size inb)).Stores Finset.univ} {hm}
    {S : Memref sig .tc .vmem S16x16 .bf16} (hS : S = slotOf M k inb) {α : Type} (p : ℙ α) (Q : α → sProp 𝕄) :
    slotAny c S
      ⊢ iprop((slotAt c S (shapeCast S16x16 w shapeCasts_S1x16x16_S16x16)
          -∗ wp frame (wpE (defs₀ (F := F)) 𝒱₀ (c : Thread nD τ) none) Set.univ p Q)
        -∗ wp frame (wpE (defs₀ (F := F)) 𝒱₀ (c : Thread nD τ) none) Set.univ
            (Prog.lift (.load M (Rect.unit (s := S2x16x16) ![k, 0, 0] S1x16x16.size inb).toLoadRect hl) >>= fun _ =>
              Prog.lift (.store M (Rect.unit (s := S2x16x16) ![k, 0, 0] S1x16x16.size inb) w Finset.univ hx hm) >>= fun _ => p) Q) := by
  subst hS
  simp only [Prog.lift, Prog.bind_op, Prog.bind_ret]
  unfold slotAny slotAt owns
  have hset : (M.access (Rect.unit (s := S2x16x16) ![k, 0, 0] S1x16x16.size inb)).set = (slotOf M k inb).view.set := (View.set_reshape _ _).symm
  iintro ⟨%f, H⟩ Hk
  iapply (wp_load_rect 𝒱₀ (c : Thread nD τ) none Set.univ (m := M) (subset_of_eq hset)) $$ H; iintro H
  iapply (wp_store 𝒱₀ (c : Thread nD τ) none Set.univ (m := M) (Mk := Finset.univ) (subset_of_eq hset)) $$ H; iintro H
  iapply Hk
  iexists _
  isplitr
  swap
  · iexact H
  ipureintro
  funext j
  exact congrFun (View.read_write_univ (v := M.access (Rect.unit (s := S2x16x16) ![k, 0, 0] S1x16x16.size inb)) f w) (Shape.reshapeEquiv _ j)

/-- A slot read as one row of its buffer. -/
theorem load_slot (c : Dev nD) (M : Memref sig .tc .vmem S2x16x16 .bf16) (k : ℕ) (inb)
    {hl : M.view.LoadsAt (Rect.unit (s := S2x16x16) ![k, 0, 0] S1x16x16.size inb).toLoadRect}
    {S : Memref sig .tc .vmem S16x16 .bf16} (hS : S = slotOf M k inb) (X : S16x16.Idx → Elt F .bf16)
    {α : Type} (p : (S1x16x16.Idx → Elt F .bf16) → ℙ α) (Q : α → sProp 𝕄) :
    slotAt c S X
      ⊢ iprop((slotAt c S X -∗ wp frame (wpE (defs₀ (F := F)) 𝒱₀ (c : Thread nD τ) none) Set.univ (p (shapeCast S1x16x16 X shapeCasts_S16x16_S1x16x16)) Q)
        -∗ wp frame (wpE (defs₀ (F := F)) 𝒱₀ (c : Thread nD τ) none) Set.univ
            (Prog.lift (.load M (Rect.unit (s := S2x16x16) ![k, 0, 0] S1x16x16.size inb).toLoadRect hl) >>= p) Q) := by
  subst hS
  simp only [Prog.lift, Prog.bind_op, Prog.bind_ret]
  unfold slotAt owns
  have hset : (M.access (Rect.unit (s := S2x16x16) ![k, 0, 0] S1x16x16.size inb)).set = (slotOf M k inb).view.set := (View.set_reshape _ _).symm
  iintro ⟨%f, %hf, H⟩ Hk
  iapply (wp_load_rect 𝒱₀ (c : Thread nD τ) none Set.univ (m := M) (subset_of_eq hset)) $$ H; iintro H
  rw [slot_read, hf]
  iapply Hk
  iexists f
  isplitr; · ipureintro; exact hf
  iexact H

end Cert.Halo

end
-- ==== Proof.Block.lean ====
/-
# One block of the halo exchange, element by element

What a device writes: its block's own stencil, with zeros for what lies beyond the block, plus the six received faces on
the six faces of the block, and zero on the boundary of the whole array.
-/
module

public import proofs.«01_k».proof.Proof.Mesh
public import proofs.«01_k».proof.Proof.Gen.KernelIdeal.Skeleton
public import Idealize.ShloMosaic.Lib.Pointwise

@[expose] public section

noncomputable section

namespace Cert.Halo

open Cert.KernelIdeal Cert.KernelIdeal.Gen
open Idealize.ShloMosaic

variable {F : FTy → Type} [FloatOps F]

abbrev up (X : S16x16.Idx → Elt F .bf16) : Vec F S1x16x16 .bf16 := shapeCast S1x16x16 X shapeCasts_S16x16_S1x16x16

abbrev iota0 : IVec S16x16x16 32 := iota .tc S16x16x16 32 [0] iota_S16x16x16_d0_w32
abbrev iota1 : IVec S16x16x16 32 := iota .tc S16x16x16 32 [1] iota_S16x16x16_d1_w32
abbrev iota2 : IVec S16x16x16 32 := iota .tc S16x16x16 32 [2] iota_S16x16x16_d2_w32

/-- What device `c` writes, from its block and the contents of its six landing slots. -/
def outBlk (c : Dev nD) (x : Vec F S16x16x16 .bf16) (X : Dir → S16x16.Idx → Elt F .bf16) : FVec F S16x16x16 .bf16 :=
  k0_pay12 iota1 iota2 (k0_pay10 (wx c) (wy c) (wz c) iota0 iota1)
    (k0_pay11 (k0_pay9 (k0_pay1 x)) iota0 iota1 (up (X 0)) (up (X 1)) (up (X 2))) (up (X 3)) (up (X 4)) (up (X 5))

/-- Whether an element lies on the face of the block towards direction `d`. -/
def edge (d : Dir) (a b e : Fin 16) : Bool := ![a == 0, a == 15, b == 0, b == 15, e == 0, e == 15] d

/-- The place of an element within the face towards direction `d`. -/
def across (d : Dir) (a b e : Fin 16) : S16x16.Idx := ![ix2 b e, ix2 b e, ix2 a e, ix2 a e, ix2 a b, ix2 a b] d

/-- The zero the kernel fills with. -/
abbrev zero : Elt F .bf16 := Scalar.truncf (F := F) FTy.bf16 bitsLt_bf16_f32 (FloatOps.ofBits FTy.f32 0#32)

/-- The stencil of the block alone, with zeros for what lies beyond it. -/
def core (x : Vec F S16x16x16 .bf16) (a b e : Fin 16) : Elt F .bf16 :=
  FloatOps.subf
    (FloatOps.addf
      (FloatOps.addf
        (FloatOps.addf
          (FloatOps.addf
            (FloatOps.addf
              (if h : a.val < 1 then FloatOps.ofBits FTy.bf16 0#16 else x (ix3 ⟨a.val - 1, by omega⟩ b e))
              (if h : a.val < 15 then x (ix3 ⟨1 + a.val, by omega⟩ b e) else FloatOps.ofBits FTy.bf16 0#16))
            (if h : b.val < 1 then FloatOps.ofBits FTy.bf16 0#16 else x (ix3 a ⟨b.val - 1, by omega⟩ e)))
          (if h : b.val < 15 then x (ix3 a ⟨1 + b.val, by omega⟩ e) else FloatOps.ofBits FTy.bf16 0#16))
        (if h : e.val < 1 then FloatOps.ofBits FTy.bf16 0#16 else x (ix3 a b ⟨e.val - 1, by omega⟩)))
      (if h : e.val < 15 then x (ix3 a b ⟨1 + e.val, by omega⟩) else FloatOps.ofBits FTy.bf16 0#16))
    (FloatOps.mulf (FloatOps.ofBits FTy.bf16 16576#16) (x (ix3 a b e)))

/-- What the face received from direction `d` adds to an element. -/
def gain (X : Dir → S16x16.Idx → Elt F .bf16) (a b e : Fin 16) (d : Dir) : Elt F .bf16 :=
  if edge d a b e then X d (across d a b e) else zero

/-- Whether an element lies on the boundary of the whole array. -/
def rim (c : Dev nD) (a b e : Fin 16) : Bool :=
  !has c 0 && edge 0 a b e || !has c 1 && edge 1 a b e || !has c 2 && edge 2 a b e || !has c 3 && edge 3 a b e ||
    !has c 4 && edge 4 a b e || !has c 5 && edge 5 a b e

theorem cmp_lo (a : Fin 16) : IntOp.cmpi CmpIPredicate.eq (BitVec.ofNat 32 a.val) 0#32 = bit (a == 0) := by
  revert a; decide

theorem cmp_hi (a : Fin 16) : IntOp.cmpi CmpIPredicate.eq (BitVec.ofNat 32 a.val) 15#32 = bit (a == 15) := by
  revert a; decide

theorem at_x0 (c : Dev nD) : Scalar.cmpi .eq (wx c) 0#32 = bit (!has c 0) := by revert c; decide
theorem at_x1 (c : Dev nD) : Scalar.cmpi .eq (wx c) 1#32 = bit (!has c 1) := by revert c; decide
theorem at_y0 (c : Dev nD) : Scalar.cmpi .eq (wy c) 0#32 = bit (!has c 2) := by revert c; decide
theorem at_y3 (c : Dev nD) : Scalar.cmpi .eq (wy c) 3#32 = bit (!has c 3) := by revert c; decide
theorem at_z0 (c : Dev nD) : Scalar.cmpi .eq (wz c) 0#32 = bit (!has c 4) := by revert c; decide
theorem at_z3 (c : Dev nD) : Scalar.cmpi .eq (wz c) 3#32 = bit (!has c 5) := by revert c; decide

theorem and_bit (p q : Bool) : IntOp.andi (bit p) (bit q) = bit (p && q) := by revert p q; decide
theorem or_bit (p q : Bool) : IntOp.ori (bit p) (bit q) = bit (p || q) := by revert p q; decide

theorem select_bit {α : Type} (p : Bool) (u v : α) : Scalar.select (bit p) u v = if p then u else v := by
  cases p <;> rfl

/-- Every element a device writes: zero on the boundary of the whole array, elsewhere the block's own stencil plus what the
received faces add. -/
theorem out_apply (c : Dev nD) (x : Vec F S16x16x16 .bf16) (X : Dir → S16x16.Idx → Elt F .bf16) (a b e : Fin 16) :
    outBlk c x X (ix3 a b e) = if rim c a b e then zero else
      FloatOps.addf (FloatOps.addf (FloatOps.addf (FloatOps.addf (FloatOps.addf (FloatOps.addf (core x a b e)
        (gain X a b e 0)) (gain X a b e 1)) (gain X a b e 2)) (gain X a b e 3)) (gain X a b e 4)) (gain X a b e 5) := by
  unfold outBlk
  pointwise [k0_pay12, k0_pay11, k0_pay10, k0_pay9, k0_pay1]
  simp only [cmp_lo, cmp_hi, at_x0, at_x1, at_y0, at_y3, at_z0, at_z3, and_bit, or_bit, select_bit]
  rfl

/-- Slots whose neighbour is missing do not matter. -/
theorem out_congr (c : Dev nD) (x : Vec F S16x16x16 .bf16) (X Y : Dir → S16x16.Idx → Elt F .bf16)
    (h : ∀ d, has c d = true → X d = Y d) : outBlk c x X = outBlk c x Y := by
  funext i
  obtain ⟨a, b, e, rfl⟩ : ∃ a b e : Fin 16, i = ix3 a b e := ⟨i 0, i 1, i 2, eq_ix3 i⟩
  rw [out_apply, out_apply]
  by_cases hr : rim c a b e = true
  · rw [if_pos hr, if_pos hr]
  · have hg : ∀ d, gain X a b e d = gain Y a b e d := by
      intro d
      unfold gain
      by_cases he : edge d a b e = true
      · rw [if_pos he, if_pos he, h d]
        by_contra hh
        apply hr
        rw [Bool.not_eq_true] at hh
        unfold rim
        fin_cases d <;> simp_all
      · rw [if_neg he, if_neg he]
    rw [if_neg hr, if_neg hr, hg, hg, hg, hg, hg, hg]

end Cert.Halo

end
-- ==== Proof.Body.lean ====
/-
# The six-direction halo exchange: the body

The kernel's body, executed part by part with the rules of the steps: signals, faces staged, the barrier, sends,
arrivals, the faces read, the block written, and the sends awaited.
-/
module

public import proofs.«01_k».proof.Proof.Steps
public import proofs.«01_k».proof.Proof.Block

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 13 → ℕ)

theorem on {v : BitVec 1} {b : Bool} (h : v = bit b) : Scalar.cmpi .ne (Scalar.extui v : BitVec 32) 0#32 = 1#1 ↔ b = true := h ▸ bit_on b
theorem off {v : BitVec 1} {b : Bool} (h : v = bit b) :
    Scalar.cmpi .ne (Scalar.extui (Scalar.xori v 1#1) : BitVec 32) 0#32 = 1#1 ↔ b = false := h ▸ bit_off b

/-- What the wait for the arrival of direction `d` takes, -/
def awaiting (c : Dev nD) (d : Dir) : sProp 𝕄 :=
  iprop(cred (tallyAt (recvCell c d) () (if has c d then N else 0)) ∗ atPos ER (recvCell c d) 0 ∅ 0 ∗ kept c d)

/-- and what it leaves. -/
def arrived (c : Dev nD) (d : Dir) : sProp 𝕄 := iprop(semVal (recvCell c d) 0 ∗ ∃ X, landed m ρ c d X)

/-- The staged input and the staged output of device `c`. -/
def xPts (c : Dev nD) : sProp 𝕄 := ((c : Thread nD τ).loc cc0_stg0_0) ↦{fullShare} xstg m ρ c
def oPts (c : Dev nD) (f : (cc0_stg1_0 : Ref sig .tc).ty.Contents (Elt F)) : sProp 𝕄 := ((c : Thread nD τ).loc cc0_stg1_0) ↦{fullShare} f

abbrev r0 : Rect S16x16x16 := Rect.unit (s := S16x16x16) ![0, 0, 0] S16x16x16.size inb_S16x16x16_S16x16x16_0_0_0

omit [FloatOps F] in
theorem origin : (![0, 0, 0] : Fin 3 → ℕ) = fun _ => 0 := funext fun a => by fin_cases a <;> rfl
omit [FloatOps F] in
theorem read_in (f : (cc0_stg0_0 : Ref sig .tc).ty.Contents (Elt F)) : xM.view.readAt (Elt F) r0.toLoadRect f = f :=
  Memref.readAt_unit_zero (Elt F) cc0_stg0_0 origin _ f
omit [FloatOps F] in
theorem write_out (f w : (cc0_stg1_0 : Ref sig .tc).ty.Contents (Elt F)) :
    (oM.access r0 : View sig .tc _ _ _).write (Elt F) f w Finset.univ = w :=
  Memref.write_access_unit_zero_univ (Elt F) cc0_stg1_0 origin _ f w

/-- A landing slot read as one row of its buffer. -/
theorem load_landed (c : Dev nD) (d : Dir) (M : Memref sig .tc .vmem S2x16x16 .bf16) (k : ℕ) (inb)
    {hl : M.view.LoadsAt (Rect.unit (s := S2x16x16) ![k, 0, 0] S1x16x16.size inb).toLoadRect}
    (hS : recvM d = slotOf M k inb) (X : S16x16.Idx → Elt F .bf16)
    {α : Type} (p : (S1x16x16.Idx → Elt F .bf16) → Prog (TpuEff nD τ sig (Elt F) Λ₀ Proc.tc) α) (Q : α → sProp 𝕄) :
    landed m ρ c d X
      ⊢ iprop((landed m ρ c d X -∗ wp frame (wpE (defs₀ (F := F)) 𝒱₀ (c : Thread nD τ) none) Set.univ (p (up X)) Q)
        -∗ wp frame (wpE (defs₀ (F := F)) 𝒱₀ (c : Thread nD τ) none) Set.univ
            (Prog.lift (.load M (Rect.unit (s := S2x16x16) ![k, 0, 0] S1x16x16.size inb).toLoadRect hl) >>= p) Q) := by
  unfold landed
  iintro ⟨%hX, H⟩ Hk
  iapply (load_slot c M k inb hS X) $$ H; iintro H
  iapply Hk
  isplitr; · ipureintro; exact hX
  iexact H

/-- The signals of five directions, and the signal to the neighbour of the sixth. -/
theorem part_signals (c : Dev nD) (v5 : BitVec 32) (v8 : BitVec 32) (v9 : BitVec 1) (v10 : BitVec 32) (v11 : BitVec 32) (v12 : BitVec 32) (v13 : BitVec 1) (v14 : BitVec 32) (v15 : BitVec 32) (v16 : BitVec 32) (v17 : BitVec 1) (v18 : BitVec 32) (v19 : BitVec 32) (v20 : BitVec 32) (v21 : BitVec 1) (v22 : BitVec 32) (v23 : BitVec 32) (v24 : BitVec 32) (v25 : BitVec 1) (v26 : BitVec 32) (v27 : BitVec 32) (v28 : BitVec 32) (v29 : BitVec 1) (v30 : BitVec 32)
    (h0 : v9 = bit (has c 0)) (h1 : v13 = bit (has c 1)) (h2 : v17 = bit (has c 2)) (h3 : v21 = bit (has c 3)) (h4 : v25 = bit (has c 4))
    (Kt : (Σ' (v31 : BitVec 32) (v32 : BitVec 32) (v33 : Sems sig S_), BitVec 1) → sProp 𝕄) :
    iprop(Rec m ρ K ∗ owing c (O₀ c) ∗ toSignal c 0 ∗ toSignal c 1 ∗ toSignal c 2 ∗ toSignal c 3 ∗ toSignal c 4 ∗ toSignal c 5)
      ⊢ iprop((iprop(halfway c 5 (oweFaces c [0, 1, 2, 3, 4, 5]) ∗ kept c 0 ∗ kept c 1 ∗ kept c 2 ∗ kept c 3 ∗ kept c 4)
          -∗ Kt ⟨Scalar.addi v5 0#32, Scalar.addi v8 1#32, SemArray.scalar (sig.barrier 0 rfl), 1#1⟩)
        -∗ wp frame (wpE (defs₀ (F := F)) 𝒱₀ (c : Thread nD τ) none) Set.univ
            (k0_part2 (Memref.whole cc0_stg0_0) (Memref.isWhole_whole _) (Memref.whole cc0_stg1_0) (Memref.isWhole_whole _)
              (Memref.whole cc0_scratch0) (Memref.isWhole_whole _) (Memref.whole cc0_scratch1) (Memref.isWhole_whole _)
              (Memref.whole cc0_scratch2) (Memref.isWhole_whole _) (Memref.whole cc0_scratch3) (Memref.isWhole_whole _)
              (Memref.whole cc0_scratch4) (Memref.isWhole_whole _) (Memref.whole cc0_scratch5) (Memref.isWhole_whole _) cc0_scratch6 cc0_scratch7
              c v5 v8 v9 v10 v11 v12 v13 v14 v15 v16 v17 v18 v19 v20 v21 v22 v23 v24 v25 v26 v27 v28 v29 v30) Kt) := by
  rw [k0_part2_eq_skeleton]; unfold k0_part2_skel O₀
  iintro ⟨#HR, HO, H0, H1, H2, H3, H4, H5⟩ Hk
  iapply (signal_neighbour m ρ K c 0 (cond1_iff c) (fun h => ⟨k0_dev1 c, k0_dev1_lt c h⟩) (dev1_eq c) (oweBars c [1, 2, 3, 4, 5])) $$ [HO H0]
  · isplitr; · iexact HR
    isplitl [HO]; · iexact HO
    iexact H0
  iintro H0
  iapply (signal_self m ρ K c 0 (off h0) (oweBars c [1, 2, 3, 4, 5])) $$ [H0]
  · isplitr; · iexact HR
    iexact H0
  iintro ⟨HO, H0⟩
  iapply (signal_neighbour m ρ K c 1 (cond3_iff c) (fun h => ⟨k0_dev2 c, k0_dev2_lt c h⟩) (dev2_eq c) (oweBars c [2, 3, 4, 5])) $$ [HO H1]
  · isplitr; · iexact HR
    isplitl [HO]; · iexact HO
    iexact H1
  iintro H1
  iapply (signal_self m ρ K c 1 (off h1) (oweBars c [2, 3, 4, 5])) $$ [H1]
  · isplitr; · iexact HR
    iexact H1
  iintro ⟨HO, H1⟩
  iapply (signal_neighbour m ρ K c 2 (cond5_iff c) (fun h => ⟨k0_dev3 c, k0_dev3_lt c h⟩) (dev3_eq c) (oweBars c [3, 4, 5])) $$ [HO H2]
  · isplitr; · iexact HR
    isplitl [HO]; · iexact HO
    iexact H2
  iintro H2
  iapply (signal_self m ρ K c 2 (off h2) (oweBars c [3, 4, 5])) $$ [H2]
  · isplitr; · iexact HR
    iexact H2
  iintro ⟨HO, H2⟩
  iapply (signal_neighbour m ρ K c 3 (cond7_iff c) (fun h => ⟨k0_dev4 c, k0_dev4_lt c h⟩) (dev4_eq c) (oweBars c [4, 5])) $$ [HO H3]
  · isplitr; · iexact HR
    isplitl [HO]; · iexact HO
    iexact H3
  iintro H3
  iapply (signal_self m ρ K c 3 (off h3) (oweBars c [4, 5])) $$ [H3]
  · isplitr; · iexact HR
    iexact H3
  iintro ⟨HO, H3⟩
  iapply (signal_neighbour m ρ K c 4 (cond9_iff c) (fun h => ⟨k0_dev5 c, k0_dev5_lt c h⟩) (dev5_eq c) (oweBars c [5])) $$ [HO H4]
  · isplitr; · iexact HR
    isplitl [HO]; · iexact HO
    iexact H4
  iintro H4
  iapply (signal_self m ρ K c 4 (off h4) (oweBars c [5])) $$ [H4]
  · isplitr; · iexact HR
    iexact H4
  iintro ⟨HO, H4⟩
  iapply (signal_neighbour m ρ K c 5 (cond11_iff c) (fun h => ⟨k0_dev6 c, k0_dev6_lt c h⟩) (dev6_eq c) (oweBars c [])) $$ [HO H5]
  · isplitr; · iexact HR
    isplitl [HO]; · iexact HO
    iexact H5
  iintro H5
  simp only [Prog.pure_eq_ret, wp_ret]
  imodintro
  iapply Hk
  isplitl [H5]; · iexact H5
  isplitl [H0]; · iexact H0
  isplitl [H1]; · iexact H1
  isplitl [H2]; · iexact H2
  isplitl [H3]; · iexact H3
  iexact H4

/-- The block is read, and five of its faces are staged. -/
theorem part_stage (c : Dev nD) (v29 : BitVec 1) (h5 : v29 = bit (has c 5)) (Kt : (Σ' (v65 : FVec F S16x16x16 .bf16), FVec F S16x16 .bf16) → sProp 𝕄) :
    iprop(Rec m ρ K ∗ halfway c 5 (oweFaces c [0, 1, 2, 3, 4, 5]) ∗ xPts m ρ c ∗ slotAny c (sendM 0) ∗ slotAny c (sendM 1) ∗ slotAny c (sendM 2) ∗ slotAny c (sendM 3) ∗ slotAny c (sendM 4))
      ⊢ iprop((iprop(owing c (oweFaces c [0, 1, 2, 3, 4, 5]) ∗ kept c 5 ∗ xPts m ρ c ∗ slotAt c (sendM 0) (face (xstg m ρ c) 0) ∗ slotAt c (sendM 1) (face (xstg m ρ c) 1) ∗ slotAt c (sendM 2) (face (xstg m ρ c) 2) ∗ slotAt c (sendM 3) (face (xstg m ρ c) 3) ∗ slotAt c (sendM 4) (face (xstg m ρ c) 4))
          -∗ Kt ⟨k0_pay1 (xstg m ρ c), k0_pay7 (xstg m ρ c)⟩)
        -∗ wp frame (wpE (defs₀ (F := F)) 𝒱₀ (c : Thread nD τ) none) Set.univ
            (k0_part3 (Memref.whole cc0_stg0_0) (Memref.isWhole_whole _) (Memref.whole cc0_stg1_0) (Memref.isWhole_whole _)
              (Memref.whole cc0_scratch0) (Memref.isWhole_whole _) (Memref.whole cc0_scratch1) (Memref.isWhole_whole _)
              (Memref.whole cc0_scratch2) (Memref.isWhole_whole _) (Memref.whole cc0_scratch3) (Memref.isWhole_whole _)
              (Memref.whole cc0_scratch4) (Memref.isWhole_whole _) (Memref.whole cc0_scratch5) (Memref.isWhole_whole _) cc0_scratch6 cc0_scratch7
              v29 (SemArray.scalar (sig.barrier 0 rfl)) 1#1) Kt) := by
  rw [k0_part3_eq_skeleton]; unfold k0_part3_skel
  iintro ⟨#HR, H5, Hx, S0, S1, S2, S3, S4⟩ Hk
  iapply (signal_self m ρ K c 5 (off h5) (oweFaces c [0, 1, 2, 3, 4, 5])) $$ [H5]
  · isplitr; · iexact HR
    iexact H5
  iintro ⟨HO, H5⟩
  unfold xPts
  simp only [Prog.lift, Prog.bind_op, Prog.bind_ret]
  iapply (wp_load 𝒱₀ (c : Thread nD τ) none Set.univ (m := xM) (Finset.subset_univ _)) $$ Hx; iintro Hx
  rw [read_in]
  iapply (store_slot c (Memref.whole cc0_scratch0) 0 inb_S2x16x16_S1x16x16_0_0_0 (k0_pay2 (xstg m ρ c)) (S := sendM 0) rfl) $$ S0; iintro S0
  iapply (store_slot c (Memref.whole cc0_scratch0) 1 inb_S2x16x16_S1x16x16_1_0_0 (k0_pay3 (xstg m ρ c)) (S := sendM 1) rfl) $$ S1; iintro S1
  iapply (store_slot c (Memref.whole cc0_scratch1) 0 inb_S2x16x16_S1x16x16_0_0_0 (k0_pay4 (xstg m ρ c)) (S := sendM 2) rfl) $$ S2; iintro S2
  iapply (store_slot c (Memref.whole cc0_scratch1) 1 inb_S2x16x16_S1x16x16_1_0_0 (k0_pay5 (xstg m ρ c)) (S := sendM 3) rfl) $$ S3; iintro S3
  iapply (store_slot c (Memref.whole cc0_scratch2) 0 inb_S2x16x16_S1x16x16_0_0_0 (k0_pay6 (xstg m ρ c)) (S := sendM 4) rfl) $$ S4; iintro S4
  simp only [Prog.pure_eq_ret, wp_ret]
  imodintro
  iapply Hk
  isplitl [HO]; · iexact HO
  isplitl [H5]; · iexact H5
  isplitl [Hx]; · iexact Hx
  isplitl [S0]; · iexact S0
  isplitl [S1]; · iexact S1
  isplitl [S2]; · iexact S2
  isplitl [S3]; · iexact S3
  iexact S4

/-- The tokens of the send of direction `d`. -/
def sendToks (c : Dev nD) (d : Dir) : sProp 𝕄 :=
  iprop(dutyTok ER (sendCell c d) 0 0 ∗ dutyTok ER (recvCell (nbr c d) (key c d)) 0 0)

/-- The last face is staged, the barrier passed, and the six faces are sent. -/
theorem part_send (c : Dev nD) (v9 : BitVec 1) (v10 : BitVec 32) (v11 : BitVec 32) (v12 : BitVec 32) (v13 : BitVec 1) (v14 : BitVec 32) (v15 : BitVec 32) (v16 : BitVec 32) (v17 : BitVec 1) (v18 : BitVec 32) (v19 : BitVec 32) (v20 : BitVec 32) (v21 : BitVec 1) (v22 : BitVec 32) (v23 : BitVec 32) (v24 : BitVec 32) (v25 : BitVec 1) (v26 : BitVec 32) (v27 : BitVec 32) (v28 : BitVec 32) (v29 : BitVec 1) (v30 : BitVec 32) (v31 : BitVec 32) (v32 : BitVec 32) (v65 : FVec F S16x16x16 .bf16)
    (Kt : (Σ' (v130 : FVec F S16x16x16 .bf16) (v131 : IVec S16x16x16 32), IVec S16x16x16 32) → sProp 𝕄) :
    iprop(Rec m ρ K ∗ levAts L lv ∗ owing c (oweFaces c [0, 1, 2, 3, 4, 5]) ∗ cred (tallyAt (barCell c) () 6) ∗ atPos ER (barCell c) 0 ∅ 0
        ∗ (slotAt c (sendM 0) (face (xstg m ρ c) 0) ∗ slotAt c (sendM 1) (face (xstg m ρ c) 1) ∗ slotAt c (sendM 2) (face (xstg m ρ c) 2) ∗ slotAt c (sendM 3) (face (xstg m ρ c) 3) ∗ slotAt c (sendM 4) (face (xstg m ρ c) 4) ∗ slotAny c (sendM 5))
        ∗ (sendToks c 0 ∗ sendToks c 1 ∗ sendToks c 2 ∗ sendToks c 3 ∗ sendToks c 4 ∗ sendToks c 5))
      ⊢ iprop((iprop(owing c 0 ∗ semVal (barCell c) 0 ∗ sent c 0 ∗ sent c 1 ∗ sent c 2 ∗ sent c 3 ∗ sent c 4 ∗ sent c 5)
          -∗ Kt ⟨k0_pay9 v65, iota0, iota1⟩)
        -∗ wp frame (wpE (defs₀ (F := F)) 𝒱₀ (c : Thread nD τ) none) Set.univ
            (k0_part4 (Memref.whole cc0_stg0_0) (Memref.isWhole_whole _) (Memref.whole cc0_stg1_0) (Memref.isWhole_whole _)
              (Memref.whole cc0_scratch0) (Memref.isWhole_whole _) (Memref.whole cc0_scratch1) (Memref.isWhole_whole _)
              (Memref.whole cc0_scratch2) (Memref.isWhole_whole _) (Memref.whole cc0_scratch3) (Memref.isWhole_whole _)
              (Memref.whole cc0_scratch4) (Memref.isWhole_whole _) (Memref.whole cc0_scratch5) (Memref.isWhole_whole _) cc0_scratch6 cc0_scratch7
              c v9 v10 v11 v12 v13 v14 v15 v16 v17 v18 v19 v20 v21 v22 v23 v24 v25 v26 v27 v28 v29 v30 v31 v32 (SemArray.scalar (sig.barrier 0 rfl)) v65 (k0_pay7 (xstg m ρ c))) Kt) := by
  rw [k0_part4_eq_skeleton]; unfold k0_part4_skel sendToks
  iintro ⟨#HR, #Hlev, HO, Hcr, Hat, ⟨S0, S1, S2, S3, S4, S5⟩, ⟨T0, U0⟩, ⟨T1, U1⟩, ⟨T2, U2⟩, ⟨T3, U3⟩, ⟨T4, U4⟩, ⟨T5, U5⟩⟩ Hk
  iapply (store_slot c (Memref.whole cc0_scratch2) 1 inb_S2x16x16_S1x16x16_1_0_0 (k0_pay8 (k0_pay7 (xstg m ρ c))) (S := sendM 5) rfl) $$ S5; iintro S5
  iapply (await_barrier m ρ K c) $$ [HO Hcr Hat]
  · isplitr; · iexact HR
    isplitr; · iexact Hlev
    isplitl [HO]; · iexact HO
    isplitl [Hcr]; · iexact Hcr
    iexact Hat
  iintro ⟨HO, Hz, B0, B1, B2, B3, B4, B5⟩
  iapply (send_face m ρ K c 0 (cond13_iff c) (fun h => ⟨k0_dev7 c, k0_dev7_lt c h⟩) (dev7_eq c) (oweFaces c [1, 2, 3, 4, 5]) rfl rfl rfl rfl) $$ [HO S0 B0 T0 U0]
  · isplitr; · iexact HR
    isplitl [HO]; · iexact HO
    unfold toSend
    isplitl [S0]; · iexact S0
    isplitl [B0]; · iexact B0
    isplitl [T0]; · iexact T0
    iexact U0
  iintro ⟨HO, S0⟩
  iapply (send_face m ρ K c 1 (cond14_iff c) (fun h => ⟨k0_dev8 c, k0_dev8_lt c h⟩) (dev8_eq c) (oweFaces c [2, 3, 4, 5]) rfl rfl rfl rfl) $$ [HO S1 B1 T1 U1]
  · isplitr; · iexact HR
    isplitl [HO]; · iexact HO
    unfold toSend
    isplitl [S1]; · iexact S1
    isplitl [B1]; · iexact B1
    isplitl [T1]; · iexact T1
    iexact U1
  iintro ⟨HO, S1⟩
  iapply (send_face m ρ K c 2 (cond15_iff c) (fun h => ⟨k0_dev9 c, k0_dev9_lt c h⟩) (dev9_eq c) (oweFaces c [3, 4, 5]) rfl rfl rfl rfl) $$ [HO S2 B2 T2 U2]
  · isplitr; · iexact HR
    isplitl [HO]; · iexact HO
    unfold toSend
    isplitl [S2]; · iexact S2
    isplitl [B2]; · iexact B2
    isplitl [T2]; · iexact T2
    iexact U2
  iintro ⟨HO, S2⟩
  iapply (send_face m ρ K c 3 (cond16_iff c) (fun h => ⟨k0_dev10 c, k0_dev10_lt c h⟩) (dev10_eq c) (oweFaces c [4, 5]) rfl rfl rfl rfl) $$ [HO S3 B3 T3 U3]
  · isplitr; · iexact HR
    isplitl [HO]; · iexact HO
    unfold toSend
    isplitl [S3]; · iexact S3
    isplitl [B3]; · iexact B3
    isplitl [T3]; · iexact T3
    iexact U3
  iintro ⟨HO, S3⟩
  iapply (send_face m ρ K c 4 (cond17_iff c) (fun h => ⟨k0_dev11 c, k0_dev11_lt c h⟩) (dev11_eq c) (oweFaces c [5]) rfl rfl rfl rfl) $$ [HO S4 B4 T4 U4]
  · isplitr; · iexact HR
    isplitl [HO]; · iexact HO
    unfold toSend
    isplitl [S4]; · iexact S4
    isplitl [B4]; · iexact B4
    isplitl [T4]; · iexact T4
    iexact U4
  iintro ⟨HO, S4⟩
  iapply (send_face m ρ K c 5 (cond18_iff c) (fun h => ⟨k0_dev12 c, k0_dev12_lt c h⟩) (dev12_eq c) (oweFaces c []) rfl rfl rfl rfl) $$ [HO S5 B5 T5 U5]
  · isplitr; · iexact HR
    isplitl [HO]; · iexact HO
    unfold toSend
    isplitl [S5]; · iexact S5
    isplitl [B5]; · iexact B5
    isplitl [T5]; · iexact T5
    iexact U5
  iintro ⟨HO, S5⟩
  simp only [Prog.pure_eq_ret, wp_ret]
  imodintro
  iapply Hk
  isplitl [HO]; · iexact HO
  isplitl [Hz]; · iexact Hz
  isplitl [S0]; · iexact S0
  isplitl [S1]; · iexact S1
  isplitl [S2]; · iexact S2
  isplitl [S3]; · iexact S3
  isplitl [S4]; · iexact S4
  iexact S5

/-- The faces of the first three directions arrive. -/
theorem part_arrive (c : Dev nD) (v2 v5 v8 : BitVec 32) (v9 : BitVec 1) (v10 : BitVec 32) (v11 : BitVec 32) (v12 : BitVec 32) (v13 : BitVec 1) (v14 : BitVec 32) (v15 : BitVec 32) (v16 : BitVec 32) (v17 : BitVec 1) (v18 : BitVec 32) (v19 : BitVec 32) (v20 : BitVec 32) (h0 : v9 = bit (has c 0)) (h1 : v13 = bit (has c 1)) (h2 : v17 = bit (has c 2))
    (Kt : (Σ' (v133 : IVec S16x16x16 32), IVec S16x16x16 1) → sProp 𝕄) :
    iprop(Rec m ρ K ∗ owing c 0 ∗ awaiting c 0 ∗ awaiting c 1 ∗ awaiting c 2)
      ⊢ iprop((iprop(owing c 0 ∗ arrived m ρ c 0 ∗ arrived m ρ c 1 ∗ arrived m ρ c 2) -∗ Kt ⟨iota2, k0_pay10 v2 v5 v8 iota0 iota1⟩)
        -∗ wp frame (wpE (defs₀ (F := F)) 𝒱₀ (c : Thread nD τ) none) Set.univ
            (k0_part5 (Memref.whole cc0_stg0_0) (Memref.isWhole_whole _) (Memref.whole cc0_stg1_0) (Memref.isWhole_whole _)
              (Memref.whole cc0_scratch0) (Memref.isWhole_whole _) (Memref.whole cc0_scratch1) (Memref.isWhole_whole _)
              (Memref.whole cc0_scratch2) (Memref.isWhole_whole _) (Memref.whole cc0_scratch3) (Memref.isWhole_whole _)
              (Memref.whole cc0_scratch4) (Memref.isWhole_whole _) (Memref.whole cc0_scratch5) (Memref.isWhole_whole _) cc0_scratch6 cc0_scratch7
              v2 v5 v8 v9 v10 v11 v12 v13 v14 v15 v16 v17 v18 v19 v20 iota0 iota1) Kt) := by
  rw [k0_part5_eq_skeleton]; unfold k0_part5_skel awaiting arrived
  iintro ⟨#HR, HO, A0, A1, A2⟩ Hk
  iapply (await_arrival m ρ K c 0 (on h0) rfl rfl) $$ [HO A0]
  · isplitr; · iexact HR
    isplitl [HO]; · iexact HO
    iexact A0
  iintro ⟨HO, A0⟩
  iapply (await_arrival m ρ K c 1 (on h1) rfl rfl) $$ [HO A1]
  · isplitr; · iexact HR
    isplitl [HO]; · iexact HO
    iexact A1
  iintro ⟨HO, A1⟩
  iapply (await_arrival m ρ K c 2 (on h2) rfl rfl) $$ [HO A2]
  · isplitr; · iexact HR
    isplitl [HO]; · iexact HO
    iexact A2
  iintro ⟨HO, A2⟩
  simp only [Prog.pure_eq_ret, wp_ret]
  imodintro
  iapply Hk
  isplitl [HO]; · iexact HO
  isplitl [A0]; · iexact A0
  isplitl [A1]; · iexact A1
  iexact A2

/-- The faces of the other three directions arrive, and three faces are added. -/
theorem part_add (c : Dev nD) (v21 : BitVec 1) (v22 : BitVec 32) (v23 : BitVec 32) (v24 : BitVec 32) (v25 : BitVec 1) (v26 : BitVec 32) (v27 : BitVec 32) (v28 : BitVec 32) (v29 : BitVec 1) (v30 : BitVec 32) (v31 : BitVec 32) (v32 : BitVec 32) (v130 : FVec F S16x16x16 .bf16) (h3 : v21 = bit (has c 3)) (h4 : v25 = bit (has c 4))
    (h5 : v29 = bit (has c 5)) (X0 X1 X2 : S16x16.Idx → Elt F .bf16) (Kt : FVec F S16x16x16 .bf16 → sProp 𝕄) :
    iprop(Rec m ρ K ∗ owing c 0 ∗ (awaiting c 3 ∗ awaiting c 4 ∗ awaiting c 5) ∗ landed m ρ c 0 X0 ∗ landed m ρ c 1 X1 ∗ landed m ρ c 2 X2)
      ⊢ iprop((iprop(owing c 0 ∗ (arrived m ρ c 3 ∗ arrived m ρ c 4 ∗ arrived m ρ c 5) ∗ landed m ρ c 0 X0 ∗ landed m ρ c 1 X1 ∗ landed m ρ c 2 X2)
          -∗ Kt (k0_pay11 v130 iota0 iota1 (up X0) (up X1) (up X2)))
        -∗ wp frame (wpE (defs₀ (F := F)) 𝒱₀ (c : Thread nD τ) none) Set.univ
            (k0_part6 (Memref.whole cc0_stg0_0) (Memref.isWhole_whole _) (Memref.whole cc0_stg1_0) (Memref.isWhole_whole _)
              (Memref.whole cc0_scratch0) (Memref.isWhole_whole _) (Memref.whole cc0_scratch1) (Memref.isWhole_whole _)
              (Memref.whole cc0_scratch2) (Memref.isWhole_whole _) (Memref.whole cc0_scratch3) (Memref.isWhole_whole _)
              (Memref.whole cc0_scratch4) (Memref.isWhole_whole _) (Memref.whole cc0_scratch5) (Memref.isWhole_whole _) cc0_scratch6 cc0_scratch7
              v21 v22 v23 v24 v25 v26 v27 v28 v29 v30 v31 v32 v130 iota0 iota1) Kt) := by
  rw [k0_part6_eq_skeleton]; unfold k0_part6_skel awaiting arrived
  iintro ⟨#HR, HO, ⟨A3, A4, A5⟩, D0, D1, D2⟩ Hk
  iapply (await_arrival m ρ K c 3 (on h3) rfl rfl) $$ [HO A3]
  · isplitr; · iexact HR
    isplitl [HO]; · iexact HO
    iexact A3
  iintro ⟨HO, A3⟩
  iapply (await_arrival m ρ K c 4 (on h4) rfl rfl) $$ [HO A4]
  · isplitr; · iexact HR
    isplitl [HO]; · iexact HO
    iexact A4
  iintro ⟨HO, A4⟩
  iapply (await_arrival m ρ K c 5 (on h5) rfl rfl) $$ [HO A5]
  · isplitr; · iexact HR
    isplitl [HO]; · iexact HO
    iexact A5
  iintro ⟨HO, A5⟩
  iapply (load_landed m ρ c 0 (Memref.whole cc0_scratch3) 0 inb_S2x16x16_S1x16x16_0_0_0 rfl X0) $$ D0; iintro D0
  iapply (load_landed m ρ c 1 (Memref.whole cc0_scratch3) 1 inb_S2x16x16_S1x16x16_1_0_0 rfl X1) $$ D1; iintro D1
  iapply (load_landed m ρ c 2 (Memref.whole cc0_scratch4) 0 inb_S2x16x16_S1x16x16_0_0_0 rfl X2) $$ D2; iintro D2
  simp only [Prog.pure_eq_ret, wp_ret]
  imodintro
  iapply Hk
  isplitl [HO]; · iexact HO
  isplitl [A3 A4 A5]
  · isplitl [A3]; · iexact A3
    isplitl [A4]; · iexact A4
    iexact A5
  isplitl [D0]; · iexact D0
  isplitl [D1]; · iexact D1
  iexact D2

/-- The other three faces are added, and the block is written. -/
theorem part_write (c : Dev nD) (v9 : BitVec 1) (v168 : IVec S16x16x16 1) (v213 : FVec F S16x16x16 .bf16)
    (X3 X4 X5 : S16x16.Idx → Elt F .bf16) (f : (cc0_stg1_0 : Ref sig .tc).ty.Contents (Elt F)) (Kt : BitVec 1 → sProp 𝕄) :
    iprop(oPts c f ∗ landed m ρ c 3 X3 ∗ landed m ρ c 4 X4 ∗ landed m ρ c 5 X5)
      ⊢ iprop((iprop(oPts c (k0_pay12 iota1 iota2 v168 v213 (up X3) (up X4) (up X5)) ∗ landed m ρ c 3 X3 ∗ landed m ρ c 4 X4 ∗ landed m ρ c 5 X5)
          -∗ Kt (Scalar.cmpi .ne (Scalar.extui v9 : BitVec 32) 0#32))
        -∗ wp frame (wpE (defs₀ (F := F)) 𝒱₀ (c : Thread nD τ) none) Set.univ
            (k0_part7 (Memref.whole cc0_stg0_0) (Memref.isWhole_whole _) (Memref.whole cc0_stg1_0) (Memref.isWhole_whole _)
              (Memref.whole cc0_scratch0) (Memref.isWhole_whole _) (Memref.whole cc0_scratch1) (Memref.isWhole_whole _)
              (Memref.whole cc0_scratch2) (Memref.isWhole_whole _) (Memref.whole cc0_scratch3) (Memref.isWhole_whole _)
              (Memref.whole cc0_scratch4) (Memref.isWhole_whole _) (Memref.whole cc0_scratch5) (Memref.isWhole_whole _) cc0_scratch6 cc0_scratch7
              v9 iota1 iota2 v168 v213) Kt) := by
  rw [k0_part7_eq_skeleton]; unfold k0_part7_skel oPts
  iintro ⟨Ho, D3, D4, D5⟩ Hk
  iapply (load_landed m ρ c 3 (Memref.whole cc0_scratch4) 1 inb_S2x16x16_S1x16x16_1_0_0 rfl X3) $$ D3; iintro D3
  iapply (load_landed m ρ c 4 (Memref.whole cc0_scratch5) 0 inb_S2x16x16_S1x16x16_0_0_0 rfl X4) $$ D4; iintro D4
  iapply (load_landed m ρ c 5 (Memref.whole cc0_scratch5) 1 inb_S2x16x16_S1x16x16_1_0_0 rfl X5) $$ D5; iintro D5
  simp only [Prog.lift, Prog.bind_op, Prog.bind_ret]
  iapply (wp_load 𝒱₀ (c : Thread nD τ) none Set.univ (m := oM) (Finset.subset_univ _)) $$ Ho; iintro Ho
  iapply (wp_store 𝒱₀ (c : Thread nD τ) none Set.univ (m := oM) (r := r0) (Mk := Finset.univ) (Finset.subset_univ _)) $$ Ho; iintro Ho
  rw [write_out]
  simp only [Prog.pure_eq_ret, wp_ret]
  imodintro
  iapply Hk
  isplitl [Ho]; · iexact Ho
  isplitl [D3]; · iexact D3
  isplitl [D4]; · iexact D4
  iexact D5

end Cert.Halo

end
-- ==== Proof.Whole.lean ====
/-
# The six-direction halo exchange: the whole body

The parts of the body in sequence, from what a device holds at the start to what it holds at the end.
-/
module

public import proofs.«01_k».proof.Proof.Body

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 13 → ℕ)

/-- What device `c` ends with: its block, computed with the faces of its neighbours. -/
def outAt (c : Dev nD) : (cc0_stg1_0 : Ref sig .tc).ty.Contents (Elt F) :=
  outBlk c (xstg m ρ c) (fun d => face (xstg m ρ (nbr c d)) (opp d))

/-- One assertion for each direction. -/
def six (Φ : Dir → sProp 𝕄) : sProp 𝕄 := iprop(Φ 0 ∗ Φ 1 ∗ Φ 2 ∗ Φ 3 ∗ Φ 4 ∗ Φ 5)

/-- What device `c` holds of the protocol at the start -/
def startPos (c : Dev nD) : sProp 𝕄 :=
  iprop(cred (tallyAt (barCell c) () 6) ∗ atPos ER (barCell c) 0 ∅ 0 ∗ six (toSignal c) ∗ six (fun d => slotAny c (sendM d)) ∗ six (sendToks c)
    ∗ six (fun d => cred (tallyAt (recvCell c d) () (if has c d then N else 0))) ∗ six (fun d => atPos ER (recvCell c d) 0 ∅ 0)
    ∗ six (fun d => atPos ER (sendCell c d) 0 ∅ 0))

/-- and at the end: every semaphore at zero, every slot its own. -/
def endPos (c : Dev nD) : sProp 𝕄 :=
  iprop(semVal (barCell c) 0 ∗ six (fun d => semVal (recvCell c d) 0) ∗ six (fun d => semVal (sendCell c d) 0)
    ∗ six (fun d => slotAny c (sendM d)) ∗ six (fun d => slotAny c (recvM d)))

/-- The coordinates of the device, and for each direction whether there is a neighbour. -/
theorem part_coords (c : Dev nD)
    (Kt : (Σ' (d0 : Dev nD) (v2 : BitVec 32) (v5 : BitVec 32) (v8 : BitVec 32) (v9 : BitVec 1) (v10 : BitVec 32) (v11 : BitVec 32) (v12 : BitVec 32) (v13 : BitVec 1) (v14 : BitVec 32) (v15 : BitVec 32) (v16 : BitVec 32) (v17 : BitVec 1) (v18 : BitVec 32) (v19 : BitVec 32) (v20 : BitVec 32) (v21 : BitVec 1) (v22 : BitVec 32) (v23 : BitVec 32) (v24 : BitVec 32) (v25 : BitVec 1) (v26 : BitVec 32) (v27 : BitVec 32) (v28 : BitVec 32) (v29 : BitVec 1), BitVec 32) → sProp 𝕄) :
    Kt ⟨c, wx c, wy c, wz c, bit (has c 0), Scalar.addi (wx c) 4294967295#32, Scalar.addi (wy c) 0#32, Scalar.addi (wz c) 0#32,
        bit (has c 1), Scalar.addi (wx c) 1#32, Scalar.addi (wy c) 0#32, Scalar.addi (wz c) 0#32,
        bit (has c 2), Scalar.addi (wx c) 0#32, Scalar.addi (wy c) 4294967295#32, Scalar.addi (wz c) 0#32,
        bit (has c 3), Scalar.addi (wx c) 0#32, Scalar.addi (wy c) 1#32, Scalar.addi (wz c) 0#32,
        bit (has c 4), Scalar.addi (wx c) 0#32, Scalar.addi (wy c) 0#32, Scalar.addi (wz c) 4294967295#32,
        bit (has c 5), Scalar.addi (wx c) 0#32⟩
      ⊢ wp frame (wpE (defs₀ (F := F)) 𝒱₀ (c : Thread nD τ) none) Set.univ
            (k0_part1 (Memref.whole cc0_stg0_0) (Memref.isWhole_whole _) (Memref.whole cc0_stg1_0) (Memref.isWhole_whole _)
              (Memref.whole cc0_scratch0) (Memref.isWhole_whole _) (Memref.whole cc0_scratch1) (Memref.isWhole_whole _)
              (Memref.whole cc0_scratch2) (Memref.isWhole_whole _) (Memref.whole cc0_scratch3) (Memref.isWhole_whole _)
              (Memref.whole cc0_scratch4) (Memref.isWhole_whole _) (Memref.whole cc0_scratch5) (Memref.isWhole_whole _) cc0_scratch6 cc0_scratch7
              ) Kt := by
  rw [k0_part1_eq_skeleton]; unfold k0_part1_skel
  simp only [Prog.lift, Prog.bind_op, Prog.bind_ret, Prog.pure_eq_ret, wp_deviceId, wp_ret]
  rw [← bit0 c, ← bit1 c, ← bit2 c, ← bit3 c, ← bit4 c, ← bit5 c]
  unfold wx wy wz
  iintro H
  imodintro
  iexact H

set_option maxHeartbeats 1600000 in
/-- The whole body. -/
theorem run_body (c : Dev nD) (Kt : PUnit → sProp 𝕄) :
    iprop(Rec m ρ K ∗ levAts L lv ∗ owing c (O₀ c) ∗ startPos c ∗ xPts m ρ c ∗ ∃ f, oPts c f)
      ⊢ iprop((iprop(owing c 0 ∗ endPos c ∗ xPts m ρ c ∗ oPts c (outAt m ρ c)) -∗ Kt ⟨⟩)
        -∗ wp frame (wpE (defs₀ (F := F)) 𝒱₀ (c : Thread nD τ) none) Set.univ
            (cc0_body (Memref.whole cc0_stg0_0) (Memref.isWhole_whole _) (Memref.whole cc0_stg1_0) (Memref.isWhole_whole _)
              (Memref.whole cc0_scratch0) (Memref.isWhole_whole _) (Memref.whole cc0_scratch1) (Memref.isWhole_whole _)
              (Memref.whole cc0_scratch2) (Memref.isWhole_whole _) (Memref.whole cc0_scratch3) (Memref.isWhole_whole _)
              (Memref.whole cc0_scratch4) (Memref.isWhole_whole _) (Memref.whole cc0_scratch5) (Memref.isWhole_whole _) cc0_scratch6 cc0_scratch7
              ) Kt) := by
  rw [cc0_body_eq_skeleton]; unfold cc0_body_skel startPos endPos six
  iintro ⟨#HR, #Hlev, HO, ⟨Hcr, Hat, ⟨H0, H1, H2, H3, H4, H5⟩, ⟨S0, S1, S2, S3, S4, S5⟩, ⟨T0, T1, T2, T3, T4, T5⟩, ⟨C0, C1, C2, C3, C4, C5⟩, ⟨R0, R1, R2, R3, R4, R5⟩, ⟨Q0, Q1, Q2, Q3, Q4, Q5⟩⟩, Hx, ⟨%f, Ho⟩⟩ Hk
  rw [wp_bind]
  iapply (part_coords c)
  dsimp only
  rw [wp_bind]
  iapply (part_signals m ρ K c _ _ _ _ _ _ _ _ _ _ _ _ _ _ _ _ _ _ _ _ _ _ _ _ rfl rfl rfl rfl rfl) $$ [HO H0 H1 H2 H3 H4 H5]
  · isplitr; · iexact HR
    isplitl [HO]; · iexact HO
    isplitl [H0]; · iexact H0
    isplitl [H1]; · iexact H1
    isplitl [H2]; · iexact H2
    isplitl [H3]; · iexact H3
    isplitl [H4]; · iexact H4
    iexact H5
  iintro ⟨H5, K0, K1, K2, K3, K4⟩
  dsimp only
  rw [wp_bind]
  iapply (part_stage m ρ K c _ rfl) $$ [H5 Hx S0 S1 S2 S3 S4]
  · isplitr; · iexact HR
    isplitl [H5]; · iexact H5
    isplitl [Hx]; · iexact Hx
    isplitl [S0]; · iexact S0
    isplitl [S1]; · iexact S1
    isplitl [S2]; · iexact S2
    isplitl [S3]; · iexact S3
    iexact S4
  iintro ⟨HO, K5, Hx, S0, S1, S2, S3, S4⟩
  dsimp only
  rw [wp_bind]
  iapply (part_send m ρ K c) $$ [HO Hcr Hat S0 S1 S2 S3 S4 S5 T0 T1 T2 T3 T4 T5]
  · isplitr; · iexact HR
    isplitr; · iexact Hlev
    isplitl [HO]; · iexact HO
    isplitl [Hcr]; · iexact Hcr
    isplitl [Hat]; · iexact Hat
    isplitl [S0 S1 S2 S3 S4 S5]
    · isplitl [S0]; · iexact S0
      isplitl [S1]; · iexact S1
      isplitl [S2]; · iexact S2
      isplitl [S3]; · iexact S3
      isplitl [S4]; · iexact S4
      iexact S5
    isplitl [T0]; · iexact T0
    isplitl [T1]; · iexact T1
    isplitl [T2]; · iexact T2
    isplitl [T3]; · iexact T3
    isplitl [T4]; · iexact T4
    iexact T5
  iintro ⟨HO, Hz, S0, S1, S2, S3, S4, S5⟩
  dsimp only
  rw [wp_bind]
  iapply (part_arrive m ρ K c _ _ _ _ _ _ _ _ _ _ _ _ _ _ _ rfl rfl rfl) $$ [HO K0 K1 K2 C0 C1 C2 R0 R1 R2]
  · isplitr; · iexact HR
    isplitl [HO]; · iexact HO
    unfold awaiting
    isplitl [K0 C0 R0]
    · isplitl [C0]; · iexact C0
      isplitl [R0]; · iexact R0
      iexact K0
    isplitl [K1 C1 R1]
    · isplitl [C1]; · iexact C1
      isplitl [R1]; · iexact R1
      iexact K1
    isplitl [C2]; · iexact C2
    isplitl [R2]; · iexact R2
    iexact K2
  unfold arrived
  iintro ⟨HO, ⟨R0, %X0, D0⟩, ⟨R1, %X1, D1⟩, ⟨R2, %X2, D2⟩⟩
  dsimp only
  rw [wp_bind]
  iapply (part_add m ρ K c _ _ _ _ _ _ _ _ _ _ _ _ _ rfl rfl rfl X0 X1 X2) $$ [HO K3 K4 K5 C3 C4 C5 R3 R4 R5 D0 D1 D2]
  · isplitr; · iexact HR
    isplitl [HO]; · iexact HO
    unfold awaiting
    isplitl [K3 K4 K5 C3 C4 C5 R3 R4 R5]
    · isplitl [K3 C3 R3]
      · isplitl [C3]; · iexact C3
        isplitl [R3]; · iexact R3
        iexact K3
      isplitl [K4 C4 R4]
      · isplitl [C4]; · iexact C4
        isplitl [R4]; · iexact R4
        iexact K4
      isplitl [C5]; · iexact C5
      isplitl [R5]; · iexact R5
      iexact K5
    isplitl [D0]; · iexact D0
    isplitl [D1]; · iexact D1
    iexact D2
  unfold arrived
  iintro ⟨HO, ⟨⟨R3, %X3, D3⟩, ⟨R4, %X4, D4⟩, ⟨R5, %X5, D5⟩⟩, D0, D1, D2⟩
  rw [wp_bind]
  iapply (part_write m ρ c _ _ _ X3 X4 X5 f) $$ [Ho D3 D4 D5]
  · isplitl [Ho]; · iexact Ho
    isplitl [D3]; · iexact D3
    isplitl [D4]; · iexact D4
    iexact D5
  iintro ⟨Ho, D3, D4, D5⟩
  iapply (await_send m ρ K c 0 (on rfl) rfl rfl) $$ [HO S0 Q0]
  · isplitr; · iexact HR
    isplitl [HO]; · iexact HO
    isplitl [S0]; · iexact S0
    iexact Q0
  iintro ⟨HO, Q0, S0⟩
  iapply (await_send m ρ K c 1 (on rfl) rfl rfl) $$ [HO S1 Q1]
  · isplitr; · iexact HR
    isplitl [HO]; · iexact HO
    isplitl [S1]; · iexact S1
    iexact Q1
  iintro ⟨HO, Q1, S1⟩
  iapply (await_send m ρ K c 2 (on rfl) rfl rfl) $$ [HO S2 Q2]
  · isplitr; · iexact HR
    isplitl [HO]; · iexact HO
    isplitl [S2]; · iexact S2
    iexact Q2
  iintro ⟨HO, Q2, S2⟩
  iapply (await_send m ρ K c 3 (on rfl) rfl rfl) $$ [HO S3 Q3]
  · isplitr; · iexact HR
    isplitl [HO]; · iexact HO
    isplitl [S3]; · iexact S3
    iexact Q3
  iintro ⟨HO, Q3, S3⟩
  iapply (await_send m ρ K c 4 (on rfl) rfl rfl) $$ [HO S4 Q4]
  · isplitr; · iexact HR
    isplitl [HO]; · iexact HO
    isplitl [S4]; · iexact S4
    iexact Q4
  iintro ⟨HO, Q4, S4⟩
  iapply (await_send m ρ K c 5 (on rfl) rfl rfl) $$ [HO S5 Q5]
  · isplitr; · iexact HR
    isplitl [HO]; · iexact HO
    isplitl [S5]; · iexact S5
    iexact Q5
  iintro ⟨HO, Q5, S5⟩
  unfold landed
  icases D0 with ⟨%e0, D0⟩
  icases D1 with ⟨%e1, D1⟩
  icases D2 with ⟨%e2, D2⟩
  icases D3 with ⟨%e3, D3⟩
  icases D4 with ⟨%e4, D4⟩
  icases D5 with ⟨%e5, D5⟩
  have hout : outBlk c (xstg m ρ c) ![X0, X1, X2, X3, X4, X5] = outAt m ρ c :=
    out_congr c _ _ _ fun d => by fin_cases d <;> assumption
  rw [show k0_pay12 iota1 iota2 (k0_pay10 (wx c) (wy c) (wz c) iota0 iota1)
      (k0_pay11 (k0_pay9 (k0_pay1 (xstg m ρ c))) iota0 iota1 (up X0) (up X1) (up X2)) (up X3) (up X4) (up X5) = outAt m ρ c from hout]
  simp only [Prog.pure_eq_ret, wp_ret]
  imodintro
  iapply Hk
  isplitl [HO]; · iexact HO
  isplitr [Hx Ho]
  swap
  · isplitl [Hx]; · iexact Hx
    iexact Ho
  isplitl [Hz]; · iexact Hz
  isplitl [R0 R1 R2 R3 R4 R5]
  · isplitl [R0]; · iexact R0
    isplitl [R1]; · iexact R1
    isplitl [R2]; · iexact R2
    isplitl [R3]; · iexact R3
    isplitl [R4]; · iexact R4
    iexact R5
  isplitl [Q0 Q1 Q2 Q3 Q4 Q5]
  · isplitl [Q0]; · iexact Q0
    isplitl [Q1]; · iexact Q1
    isplitl [Q2]; · iexact Q2
    isplitl [Q3]; · iexact Q3
    isplitl [Q4]; · iexact Q4
    iexact Q5
  isplitl [S0 S1 S2 S3 S4 S5]
  · isplitl [S0]; · iexact S0
    isplitl [S1]; · iexact S1
    isplitl [S2]; · iexact S2
    isplitl [S3]; · iexact S3
    isplitl [S4]; · iexact S4
    iexact S5
  isplitl [D0]
  · iapply (slotAt_any c (recvM 0) _); iexact D0
  isplitl [D1]
  · iapply (slotAt_any c (recvM 1) _); iexact D1
  isplitl [D2]
  · iapply (slotAt_any c (recvM 2) _); iexact D2
  isplitl [D3]
  · iapply (slotAt_any c (recvM 3) _); iexact D3
  isplitl [D4]
  · iapply (slotAt_any c (recvM 4) _); iexact D4
  iapply (slotAt_any c (recvM 5) _); iexact D5

end Cert.Halo

end
-- ==== Proof.Launch.lean ====
/-
# The six-direction halo exchange: what the launch deals out

Before the kernels start, each semaphore's invariant is set up, the tokens of its duties are dealt to the devices that
pay them, the credits of what devices owe one another are counted, and each two-slot buffer is cut into its slots.
-/
module

public import proofs.«01_k».proof.Proof.Whole

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Conjunctions over directions and over semaphores -/

/-- One assertion for each direction, as a conjunction over all of them. -/
theorem all_six (Φ : Dir → sProp 𝕄) : bigSep Finset.univ Φ = six Φ :=
  bigSep_univ_eq_bigSepL [0, 1, 2, 3, 4, 5] (by decide) (by decide) Φ

/-- The thirteen semaphores: the barrier, and two for each direction. -/
def thirteen : Unit ⊕ (Dir ⊕ Dir) ≃ Fin 13 :=
  Equiv.ofBijective (Sum.elim (fun _ => 0) (Sum.elim sIx rIx)) (by decide)

theorem all_thirteen (Φ : Fin 13 → sProp 𝕄) : bigSep Finset.univ Φ
    = iprop(Φ 0 ∗ (bigSep Finset.univ fun d => Φ (sIx d)) ∗ bigSep Finset.univ fun d => Φ (rIx d)) := by
  rw [bigSep_univ_equiv thirteen, bigSep_univ_sum, bigSep_univ_sum, show (Finset.univ : Finset Unit) = {()} from rfl, bigSep_singleton]
  rfl

/-- The kernel's own twelve: two for each direction. -/
def twelve : Dir ⊕ Dir ≃ Fin 12 :=
  Equiv.ofBijective (Sum.elim ![0, 1, 2, 3, 4, 5] ![6, 7, 8, 9, 10, 11]) (by decide)

theorem osem_s : ∀ d : Dir, osem (twelve (.inl d)) = .dma (sendS d) := by decide
theorem osem_r : ∀ d : Dir, osem (twelve (.inr d)) = .dma (recvS d) := by decide

theorem own_sems (c : Dev nD) :
    (Pipeline.ownSems0 (Ix := Unit) (Name := ℕ) (U := UU) (Lvl := ℕ) (Val := Elt F) (τ := τ) osem c : sProp 𝕄)
      = iprop((bigSep Finset.univ fun d => semVal (sendCell c d) 0) ∗ bigSep Finset.univ fun d => semVal (recvCell c d) 0) := by
  unfold Pipeline.ownSems0
  rw [bigSep_univ_equiv twelve, bigSep_univ_sum]
  simp only [osem_s, osem_r]
  rfl

theorem unscoped_sems (c : Dev nD) : (unscopedSems0 c : sProp 𝕄) = semVal (barCell c) 0 := by
  unfold unscopedSems0; rw [bigSep_eq_bigSepL_of_eq [SemLoc.reg barS] (by decide) (by decide)]; rfl

/-! ## Cells and tokens -/

theorem kcell_inj : Function.Injective kcell := by
  rintro ⟨c, k⟩ ⟨c', k'⟩ h
  have hc : c = c' := congrArg (fun g : GSem nD τ sig => g.1.1) h
  have hk : k = k' := (show Function.Injective csem by decide) (congrArg Prod.snd h)
  rw [hc, hk]

def allCells : Finset (GSem nD τ sig) := Finset.univ.map ⟨kcell, kcell_inj⟩

/-- The duties of one device in one direction: the barrier's, the send's and the arrival's. -/
def dutyAt (p : Dir × Fin 3) : SemLoc sig × Dir :=
  (![(.reg barS, p.1), (.dma (sendS p.1), 0), (.dma (recvS p.1), 0)] : Fin 3 → SemLoc sig × Dir) p.2

def dutyOf (p : Dev nD × (Dir × Fin 3)) : GSem nD τ sig × ℕ × Dir := (((p.1 : Thread nD τ), (dutyAt p.2).1), 0, (dutyAt p.2).2)

theorem dutyOf_inj : Function.Injective dutyOf := by
  rintro ⟨c, p⟩ ⟨c', p'⟩ h
  have hc : c = c' := congrArg (fun x : GSem nD τ sig × ℕ × Dir => x.1.1.1) h
  have hp : p = p' := (show Function.Injective dutyAt by decide)
    (Prod.ext (congrArg (fun x : GSem nD τ sig × ℕ × Dir => x.1.2) h) (congrArg (fun x : GSem nD τ sig × ℕ × Dir => x.2.2) h))
  rw [hc, hp]

def allToks : Finset (GSem nD τ sig × ℕ × Dir) := Finset.univ.map ⟨dutyOf, dutyOf_inj⟩

/-- The ghost state the launch begins with. -/
def u₀ : UU := (initOf (Pipeline.cells cfgs cellOf_inj) (Pipeline.launchToks cfgs cellOf_inj), initOf allCells allToks)

/-- The tokens of device `c`'s own cells, as they are minted, -/
def minted (c : Dev nD) : sProp 𝕄 := bigSep Finset.univ fun d : Dir =>
  iprop(dutyTok ER (barCell c) 0 d ∗ dutyTok ER (sendCell c d) 0 0 ∗ dutyTok ER (recvCell c d) 0 0)
/-- and the tokens of the duties device `c` pays. -/
def dealt (c : Dev nD) : sProp 𝕄 := bigSep Finset.univ fun d : Dir =>
  iprop(dutyTok ER (barCell (nbr c d)) 0 (key c d) ∗ sendToks c d)

/-- What the launch's ghost state gives device `c`, -/
def G (c : Dev nD) : sProp 𝕄 :=
  iprop((bigSep Finset.univ fun k : Fin 13 =>
      iprop(roundState ER (haloRd m ρ) (kcell (c, k)) 0 ∗ atPos ER (kcell (c, k)) 0 ∅ 0 ∗ reached ER (kcell (c, k)) 0)) ∗ minted c)
/-- and what it has once the invariants are set up and the tokens dealt. -/
def G' (c : Dev nD) : sProp 𝕄 :=
  iprop(∃ K, Rec m ρ K ∗ (bigSep Finset.univ fun k : Fin 13 => atPos ER (kcell (c, k)) 0 ∅ 0) ∗ dealt c)

theorem mint : BI.own (ER (initOf allCells allToks)) ⊢ (|==> bigSep Finset.univ (G m ρ) : sProp 𝕄) := by
  have hcells (Φ : GSem nD τ sig → sProp 𝕄) :
      bigSep allCells Φ = bigSep Finset.univ fun c : Dev nD => bigSep Finset.univ fun k : Fin 13 => Φ (kcell (c, k)) := by
    unfold allCells; rw [bigSep_map, bigSep_univ_prod]; rfl
  have htoks : bigSep allToks (fun x => (dutyTok ER x.1 x.2.1 x.2.2 : sProp 𝕄)) = bigSep Finset.univ fun c : Dev nD => minted c := by
    unfold allToks minted
    rw [bigSep_map, bigSep_univ_prod]
    refine bigSep_congr fun c _ => ?_
    rw [bigSep_univ_prod]
    refine bigSep_congr fun d _ => ?_
    rw [bigSep_univ_eq_bigSepL [0, 1, 2] (by decide) (by decide)]
    rfl
  iintro H
  imod (Rounds.fund ER (haloRd m ρ) allCells allToks) $$ H with ⟨Hs, Hr, Ha, Ht⟩
  imodintro
  ihave Hs := (Entails.of_eq (hcells fun g => roundState ER (haloRd m ρ) g 0)) $$ Hs
  ihave Ha := (Entails.of_eq (hcells fun g => atPos ER g 0 ∅ 0)) $$ Ha
  ihave Hr := (Entails.of_eq (hcells fun g => reached ER g 0)) $$ Hr
  ihave Ht := (Entails.of_eq htoks) $$ Ht
  unfold G; simp only [bigSep_sep']
  isplitr [Ht]
  · isplitl [Hs]; · iexact Hs
    isplitl [Ha]; · iexact Ha
    iexact Hr
  iexact Ht

/-- One cell: its counter at zero and its ghost state make its invariant. -/
theorem set_up (g : GSem nD τ sig) :
    iprop(semVal g 0 ∗ roundState ER (haloRd m ρ) g 0 ∗ atPos ER g 0 ∅ 0 ∗ reached ER g 0)
      ⊢ (|={Set.univ}=> iprop((∃ κ : ℕ, cellInv ER (haloRd m ρ) κ g ∗ reached ER g 0) ∗ atPos ER g 0 ∅ 0) : sProp 𝕄) := by
  iintro ⟨Hv, Hs, Ha, Hr⟩
  imod ((Rounds.body_intro ER (haloRd m ρ) g).trans inv_alloc) $$ [Hv Hs] with ⟨%κ, HI⟩
  · isplitl [Hv]; · iexact Hv
    iexact Hs
  imodintro
  isplitr [Ha]
  · iexists κ
    isplitl [HI]; · iexact HI
    iexact Hr
  iexact Ha

/-- All cells of one device. -/
theorem set_up_device (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 13 =>
            iprop((∃ κ : ℕ, cellInv ER (haloRd m ρ) κ (kcell (c, k)) ∗ reached ER (kcell (c, k)) 0) ∗ atPos ER (kcell (c, k)) 0 ∅ 0)) ∗ minted c) := by
  rw [own_sems, unscoped_sems]
  unfold G
  iintro ⟨⟨Hs, Hr⟩, Hb, Hst, Ht⟩
  imod (show iprop((bigSep Finset.univ fun k : Fin 13 => semVal (kcell (c, k)) 0) ∗ bigSep Finset.univ fun k : Fin 13 =>
          iprop(roundState ER (haloRd m ρ) (kcell (c, k)) 0 ∗ atPos ER (kcell (c, k)) 0 ∅ 0 ∗ reached ER (kcell (c, k)) 0))
        ⊢ (|={Set.univ}=> bigSep Finset.univ fun k : Fin 13 =>
            iprop((∃ κ : ℕ, cellInv ER (haloRd m ρ) κ (kcell (c, k)) ∗ reached ER (kcell (c, k)) 0) ∗ atPos ER (kcell (c, k)) 0 ∅ 0) : sProp 𝕄) from by
      rw [← bigSep_sep']
      exact (bigSep_mono fun k _ => set_up m ρ (kcell (c, k))).trans (bigSep_fupd _ _)) $$ [Hs Hr Hb Hst] with H
  · isplitr [Hst]
    · rw [all_thirteen]
      simp only [kcell_s, kcell_r]
      isplitl [Hb]; · iexact Hb
      isplitl [Hs]; · iexact Hs
      iexact Hr
    iexact Hst
  imodintro
  isplitl [H]; · iexact H
  iexact Ht

/-- Tokens go from the devices they are minted for to the devices that pay: each barrier's and each arrival's to the
    neighbour paired with it. -/
theorem deal : (bigSep Finset.univ fun c : Dev nD => (minted c : sProp 𝕄)) ⊢ bigSep Finset.univ fun c : Dev nD => dealt c := by
  unfold minted dealt sendToks
  rw [← bigSep_univ_prod (fun p : Dev nD × Dir =>
      iprop(dutyTok ER (barCell p.1) 0 p.2 ∗ dutyTok ER (sendCell p.1 p.2) 0 0 ∗ dutyTok ER (recvCell p.1 p.2) 0 (0 : Dir))),
    ← bigSep_univ_prod (fun p : Dev nD × Dir =>
      iprop(dutyTok ER (barCell (nbr p.1 p.2)) 0 (key p.1 p.2) ∗ dutyTok ER (sendCell p.1 p.2) 0 0
        ∗ dutyTok ER (recvCell (nbr p.1 p.2) (key p.1 p.2)) 0 (0 : Dir))),
    bigSep_sep', bigSep_sep', bigSep_sep', bigSep_sep',
    bigSep_univ_equiv pairing (fun p : Dev nD × Dir => (dutyTok ER (barCell p.1) 0 p.2 : sProp 𝕄)),
    bigSep_univ_equiv pairing (fun p : Dev nD × Dir => (dutyTok ER (recvCell p.1 p.2) 0 (0 : Dir) : sProp 𝕄))]
  exact Entails.refl _

theorem regroup :
    (bigSep Finset.univ fun c : Dev nD => iprop((bigSep Finset.univ fun k : Fin 13 =>
            iprop((∃ κ : ℕ, cellInv ER (haloRd m ρ) κ (kcell (c, k)) ∗ reached ER (kcell (c, k)) 0) ∗ atPos ER (kcell (c, k)) 0 ∅ 0)) ∗ minted c) : sProp 𝕄)
      ⊢ bigSep Finset.univ (G' m ρ) := by
  simp only [bigSep_sep']
  rw [← bigSep_univ_prod (fun ck : Dev nD × Fin 13 => iprop(∃ κ : ℕ, cellInv ER (haloRd m ρ) κ (kcell ck) ∗ reached ER (kcell ck) 0))]
  iintro ⟨⟨HI, Ha⟩, Ht⟩
  ihave HK := (bigSep_exists_pi Finset.univ (fun (ck : Dev nD × Fin 13) (κ : ℕ) =>
    (iprop(cellInv ER (haloRd m ρ) κ (kcell ck) ∗ reached ER (kcell ck) 0) : sProp 𝕄))) $$ HI
  icases HK with ⟨%K, HI⟩
  ihave #HR := (show (bigSep Finset.univ fun ck : Dev nD × Fin 13 =>
    (iprop(cellInv ER (haloRd m ρ) (K ck) (kcell ck) ∗ reached ER (kcell ck) 0) : sProp 𝕄)) ⊢ Rec m ρ K from Entails.refl _) $$ HI
  ihave Ht := (deal (F := F)) $$ Ht
  ihave HRs := (bigSep_of_persistent (Finset.univ : Finset (Dev nD)) (Rec m ρ K)) $$ HR
  iapply (show iprop((bigSep Finset.univ fun _ : Dev nD => Rec m ρ K)
      ∗ (bigSep Finset.univ fun c : Dev nD => bigSep Finset.univ fun k : Fin 13 => atPos ER (kcell (c, k)) 0 ∅ 0)
      ∗ bigSep Finset.univ fun c : Dev nD => dealt c) ⊢ bigSep Finset.univ (G' m ρ) from by
    rw [← bigSep_sep', ← bigSep_sep']
    refine bigSep_mono fun c _ => ?_
    show iprop(Rec m ρ K ∗ (bigSep Finset.univ fun k : Fin 13 => atPos ER (kcell (c, k)) 0 ∅ 0) ∗ dealt c) ⊢ G' m ρ c
    unfold G'
    iintro H
    iexists K
    iexact H)
  isplitl [HRs]; · iexact HRs
  isplitl [Ha]; · iexact Ha
  iexact Ht

/-- The launch's one step over all devices. -/
theorem glob : (bigSep Finset.univ fun c => iprop(Pipeline.ownSems0 (Ix := Unit) (Name := ℕ) (U := UU) (Lvl := ℕ) (Val := Elt F) (τ := τ) osem c
      ∗ unscopedSems0 c ∗ G m ρ c) : sProp 𝕄) ⊢ |={Set.univ}=> bigSep Finset.univ (G' m ρ) :=
  ((bigSep_mono fun c _ => set_up_device m ρ c).trans (bigSep_fupd _ _)).trans (BI.fupd_mono (regroup m ρ))

/-! ## Credits -/

/-- What a device owes a semaphore, summed over the directions. -/
theorem owes_at (c : Dev nD) (g : GSem nD τ sig) (u : Unit) :
    O₀ c g u = (∑ d : Dir, oweFace c d g u) + ∑ d : Dir, oweBar c d g u := by
  rw [Fin.sum_univ_six, Fin.sum_univ_six]
  show 0 + oweFace c 5 g u + oweFace c 4 g u + oweFace c 3 g u + oweFace c 2 g u + oweFace c 1 g u + oweFace c 0 g u
    + oweBar c 5 g u + oweBar c 4 g u + oweBar c 3 g u + oweBar c 2 g u + oweBar c 1 g u + oweBar c 0 g u = _
  ring

theorem bar_eq (a b : Dev nD) : barCell a = barCell b ↔ a = b :=
  ⟨fun h => congrArg (fun g : GSem nD τ sig => g.1.1) h, fun h => h ▸ rfl⟩
theorem recv_eq (a b : Dev nD) (d e : Dir) : recvCell a d = recvCell b e ↔ a = b ∧ d = e :=
  ⟨fun h => ⟨congrArg (fun g : GSem nD τ sig => g.1.1) h,
    (show Function.Injective (fun d : Dir => (SemLoc.dma (recvS d) : SemLoc sig)) by decide) (congrArg Prod.snd h)⟩, fun ⟨h, h'⟩ => by rw [h, h']⟩
theorem bar_ne_recv (a b : Dev nD) (d : Dir) : barCell a ≠ recvCell b d := fun h =>
  absurd (congrArg Prod.snd h) (by simp)

theorem count_bar : ∀ c : Dev nD, (∑ d : Dev nD, ∑ e : Dir, if c = nbr d e then 1 else 0) = 6 := by decide +kernel
theorem count_recv : ∀ (c : Dev nD) (f : Dir), (∑ d : Dev nD, ∑ e : Dir, if (c = nbr d e ∧ f = opp e) ∧ has d e = true then 1 else 0)
    = if has c f then 1 else 0 := by decide +kernel

/-- Every barrier is owed six units, -/
theorem owed_bar (c : Dev nD) : ∑ d : Dev nD, O₀ d (barCell c) () = 6 := by
  rw [← count_bar c]
  refine Finset.sum_congr rfl fun d _ => ?_
  rw [owes_at, Finset.sum_eq_zero fun e _ => ?_, Nat.zero_add]
  · refine Finset.sum_congr rfl fun e _ => ?_
    unfold oweBar
    rw [tallyAt_apply]
    simp only [bar_eq, and_true]
  · unfold oweFace
    rw [tallyAt_apply, if_neg fun h => bar_ne_recv _ _ _ h.1]

/-- and every arrival one face, where there is a neighbour. -/
theorem owed_recv (c : Dev nD) (f : Dir) : ∑ d : Dev nD, O₀ d (recvCell c f) () = if has c f then N else 0 := by
  have h : (if has c f then N else 0) = (if has c f then 1 else 0) * N := by split <;> simp
  rw [h, ← count_recv c f, Finset.sum_mul]
  refine Finset.sum_congr rfl fun d _ => ?_
  rw [owes_at, Finset.sum_eq_zero (f := fun e => oweBar d e (recvCell c f) ()) fun e _ => ?_, Nat.add_zero, Finset.sum_mul]
  · refine Finset.sum_congr rfl fun e _ => ?_
    unfold oweFace
    rw [tallyAt_apply]
    simp only [recv_eq, and_true]
    by_cases h1 : c = nbr d e ∧ f = opp e
    · by_cases h2 : has d e = true
      · rw [if_pos h1, if_pos h2, if_pos ⟨h1, h2⟩, Nat.one_mul]
      · rw [if_pos h1, if_neg h2, if_neg fun h => h2 h.2, Nat.zero_mul]
    · rw [if_neg h1, if_neg fun h => h1 h.1, Nat.zero_mul]
  · unfold oweBar
    rw [tallyAt_apply, if_neg fun h => bar_ne_recv _ _ _ h.1.symm]

theorem launch_at (c : Dev nD) (sm : SemLoc sig) (n : ℕ) (h : ∑ d : Dev nD, O₀ d ((c : Thread nD τ), sm) () = n) :
    tallyOn ((c : Thread nD τ), sm) (launchCredit (Pipeline.owing O₀) 0 ((c : Thread nD τ), sm))
      = (tallyAt ((c : Thread nD τ), sm) () n : CellTallies nD τ sig Unit) := by
  unfold tallyAt
  refine congrArg _ (Finsupp.ext fun u => ?_)
  cases u
  rw [Pipeline.launchCredit_owing, Finsupp.single_eq_same, h]

/-- The credits of a device: six units of its barrier, and a face from every neighbour. -/
theorem creds (c : Dev nD) :
    (Pipeline.launchCred O₀ c : sProp 𝕄) ⊢ iprop(cred (tallyAt (barCell c) () 6)
      ∗ bigSep Finset.univ fun d : Dir => cred (tallyAt (recvCell c d) () (if has c d then N else 0))) := by
  unfold Pipeline.launchCred
  refine (bigSep_subset (Finset.subset_univ (Finset.univ.map ⟨csem, by decide⟩))).trans ?_
  rw [bigSep_map, all_thirteen]
  simp only [Function.Embedding.coeFn_mk, csem_s, csem_r]
  show iprop(cred (tallyOn (barCell c) (launchCredit (Pipeline.owing O₀) 0 (barCell c)))
    ∗ (bigSep Finset.univ fun d : Dir => cred (tallyOn (sendCell c d) (launchCredit (Pipeline.owing O₀) 0 (sendCell c d))))
    ∗ bigSep Finset.univ fun d : Dir => cred (tallyOn (recvCell c d) (launchCredit (Pipeline.owing O₀) 0 (recvCell c d)))) ⊢ _
  iintro ⟨Hb, -, Hr⟩
  isplitl [Hb]
  · rw [← launch_at c (.reg barS) 6 (owed_bar c)]; iexact Hb
  simp only [← launch_at c (.dma (recvS _)) _ (owed_recv c _)]
  iexact Hr

/-! ## Slots -/

theorem rows_apart : Disjoint row0.set row1.set := Rect.unit_disjoint 0 (Or.inl (by decide))
theorem rows_all : row0.set ∪ row1.set = Finset.univ := by
  ext i
  simp only [Finset.mem_union, Finset.mem_univ, iff_true, Rect.mem_set_unit]
  have h0 := (i 0).isLt
  have h1 := (i 1).isLt
  have h2 := (i 2).isLt
  rcases Nat.lt_or_ge (i 0).val 1 with h | h
  · refine Or.inl fun a => ?_
    fin_cases a
    exacts [⟨Nat.zero_le _, h⟩, ⟨Nat.zero_le _, h1⟩, ⟨Nat.zero_le _, h2⟩]
  · refine Or.inr fun a => ?_
    fin_cases a
    exacts [⟨h, h0⟩, ⟨Nat.zero_le _, h1⟩, ⟨Nat.zero_le _, h2⟩]

theorem low_set (M : Memref sig .tc .vmem S2x16x16 .bf16) : (lowSlot M).view.set = row0.set.map M.view.emb :=
  (View.set_reshape _ _).trans (View.set_slice _ _)
theorem high_set (M : Memref sig .tc .vmem S2x16x16 .bf16) : (highSlot M).view.set = row1.set.map M.view.emb :=
  (View.set_reshape _ _).trans (View.set_slice _ _)

/-- A whole two-slot buffer is its two slots, -/
theorem cut (c : Dev nD) (M : Memref sig .tc .vmem S2x16x16 .bf16) (hM : M.view.set = Finset.univ) :
    iprop(∃ f : Buf (Elt F) (M.view.loc (c : Thread nD τ)), M.view.loc (c : Thread nD τ) ↦{fullShare} f)
      ⊢ (iprop(slotAny c (lowSlot M) ∗ slotAny c (highSlot M)) : sProp 𝕄) := by
  have hU : (Finset.univ : Finset (Idx (M.view.loc (c : Thread nD τ)))) = row0.set.map M.view.emb ∪ row1.set.map M.view.emb := by
    rw [← Finset.map_union, rows_all]; exact hM.symm
  have hD : Disjoint (row0.set.map M.view.emb) (row1.set.map M.view.emb) := (Finset.disjoint_map _).mpr rows_apart
  unfold slotAny
  rw [low_set, high_set, hU]
  iintro ⟨%f, H⟩
  ihave H := (pointsTo_union (ℓ := M.view.loc (c : Thread nD τ)) hD).1 $$ H
  icases H with ⟨H0, H1⟩
  isplitl [H0]
  · iexists f; iexact H0
  iexists f; iexact H1

/-- and its two slots are the whole buffer. -/
theorem glue (c : Dev nD) (M : Memref sig .tc .vmem S2x16x16 .bf16) (hM : M.view.set = Finset.univ) :
    iprop(slotAny c (lowSlot M) ∗ slotAny c (highSlot M))
      ⊢ (iprop(∃ f : Buf (Elt F) (M.view.loc (c : Thread nD τ)), M.view.loc (c : Thread nD τ) ↦{fullShare} f) : sProp 𝕄) := by
  have hU : (Finset.univ : Finset (Idx (M.view.loc (c : Thread nD τ)))) = row0.set.map M.view.emb ∪ row1.set.map M.view.emb := by
    rw [← Finset.map_union, rows_all]; exact hM.symm
  have hD : Disjoint (row0.set.map M.view.emb) (row1.set.map M.view.emb) := (Finset.disjoint_map _).mpr rows_apart
  unfold slotAny
  rw [low_set, high_set, hU]
  iintro ⟨⟨%f, H0⟩, ⟨%g, H1⟩⟩
  ihave H := (pointsTo_join (ℓ := M.view.loc (c : Thread nD τ)) hD) $$ [H0 H1]
  · isplitl [H0]; · iexact H0
    iexact H1
  iexists _; iexact H

/-- The scratch buffers of a device, cut into slots, -/
theorem cut_all (c : Dev nD) : (Pipeline.scopedRest (Ix := Unit) (Name := ℕ) (U := UU) (Lvl := ℕ) (Val := Elt F) spec0 c : sProp 𝕄)
    ⊢ iprop(six (fun d => slotAny c (sendM d)) ∗ six (fun d => slotAny c (recvM d))) := by
  rw [scopedRest0_eq]
  unfold six
  iintro ⟨H0, H1, H2, H3, H4, H5⟩
  ihave H0 := (cut c (Memref.whole cc0_scratch0) (View.set_whole _)) $$ H0
  ihave H1 := (cut c (Memref.whole cc0_scratch1) (View.set_whole _)) $$ H1
  ihave H2 := (cut c (Memref.whole cc0_scratch2) (View.set_whole _)) $$ H2
  ihave H3 := (cut c (Memref.whole cc0_scratch3) (View.set_whole _)) $$ H3
  ihave H4 := (cut c (Memref.whole cc0_scratch4) (View.set_whole _)) $$ H4
  ihave H5 := (cut c (Memref.whole cc0_scratch5) (View.set_whole _)) $$ H5
  icases H0 with ⟨A0, A1⟩
  icases H1 with ⟨A2, A3⟩
  icases H2 with ⟨A4, A5⟩
  icases H3 with ⟨B0, B1⟩
  icases H4 with ⟨B2, B3⟩
  icases H5 with ⟨B4, B5⟩
  isplitl [A0 A1 A2 A3 A4 A5]
  · isplitl [A0]; · iexact A0
    isplitl [A1]; · iexact A1
    isplitl [A2]; · iexact A2
    isplitl [A3]; · iexact A3
    isplitl [A4]; · iexact A4
    iexact A5
  isplitl [B0]; · iexact B0
  isplitl [B1]; · iexact B1
  isplitl [B2]; · iexact B2
  isplitl [B3]; · iexact B3
  isplitl [B4]; · iexact B4
  iexact B5

/-- and put together again. -/
theorem glue_all (c : Dev nD) : (iprop(six (fun d => slotAny c (sendM d)) ∗ six (fun d => slotAny c (recvM d))) : sProp 𝕄)
    ⊢ Pipeline.scopedRest (Ix := Unit) (Name := ℕ) (U := UU) (Lvl := ℕ) (Val := Elt F) spec0 c := by
  rw [scopedRest0_eq]
  unfold six
  iintro ⟨⟨A0, A1, A2, A3, A4, A5⟩, B0, B1, B2, B3, B4, B5⟩
  isplitl [A0 A1]
  · iapply (glue c (Memref.whole cc0_scratch0) (View.set_whole _))
    isplitl [A0]; · iexact A0
    iexact A1
  isplitl [A2 A3]
  · iapply (glue c (Memref.whole cc0_scratch1) (View.set_whole _))
    isplitl [A2]; · iexact A2
    iexact A3
  isplitl [A4 A5]
  · iapply (glue c (Memref.whole cc0_scratch2) (View.set_whole _))
    isplitl [A4]; · iexact A4
    iexact A5
  isplitl [B0 B1]
  · iapply (glue c (Memref.whole cc0_scratch3) (View.set_whole _))
    isplitl [B0]; · iexact B0
    iexact B1
  isplitl [B2 B3]
  · iapply (glue c (Memref.whole cc0_scratch4) (View.set_whole _))
    isplitl [B2]; · iexact B2
    iexact B3
  iapply (glue c (Memref.whole cc0_scratch5) (View.set_whole _))
  isplitl [B4]; · iexact B4
  iexact B5

end Cert.Halo

end
-- ==== Proof.Run.lean ====
/-
# The six-direction halo exchange: the run of the whole program

The kernel's run on each device, put into the pipeline's schedule of one grid point and launched on the 32 devices.
-/
module

public import proofs.«01_k».proof.Proof.Launch
public import Idealize.ShloMosaic.Lib.Quiescent
public import Idealize.ShloMosaic.Lib.Pipeline.CollectiveSegs

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule of the call: one grid point -/

/-- What device `c` starts its kernel from, without its buffers. -/
def start (c : Dev nD) : sProp 𝕄 :=
  iprop(G' m ρ c ∗ cred (tallyAt (barCell c) () 6)
    ∗ (bigSep Finset.univ fun d : Dir => cred (tallyAt (recvCell c d) () (if has c d then N else 0))) ∗ levAts L lv)

/-- Before the grid point: that, with all slots at some contents. -/
def before (c : Dev nD) : sProp 𝕄 :=
  iprop(start m ρ c ∗ six (fun d => slotAny c (sendM d)) ∗ six (fun d => slotAny c (recvM d)))

/-- The argument's window is staged at device `c`'s block and stays so; the result's window ends at `outAt`. Before the
    point the device holds `before`, after it `endPos`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => before m ρ c
    | ⟨_ + 1, _⟩ => endPos c
  q _ := fullShare
  owed t := match t with
    | ⟨0, _⟩ => O₀ c
    | ⟨_ + 1, _⟩ => 0

theorem ownSemFacts : Pipeline.OwnSemFacts cfg0.spec osem := by decide

theorem share_eq (c : Dev nD) (w : Fin cfg0.W) : (dats m ρ 0 c).share w = fullShare := by unfold Dat.share; split <;> rfl

theorem x_fetched : (cfg0.win (0 : Fin 2)).fetch t0_0 = true := rfl

/-! ## The body at its grid point -/

/-- What the launch deals device `c` is what its kernel's run starts from, the records of all cells aside. -/
theorem before_split (c : Dev nD) : before m ρ c ⊢ (iprop(∃ K, Rec m ρ K ∗ levAts L lv ∗ startPos c) : sProp 𝕄) := by
  unfold before start G' dealt
  rw [all_thirteen, bigSep_sep']
  simp only [all_six, kcell_s, kcell_r]
  iintro ⟨⟨⟨%K, HR, ⟨Ha, HaS, HaR⟩, Hb, Ht⟩, Hc, Hcr, Hlev⟩, Hs, Hr⟩
  iexists K
  isplitl [HR]; · iexact HR
  isplitl [Hlev]; · iexact Hlev
  unfold startPos
  isplitl [Hc]; · iexact Hc
  isplitl [Ha]; · iexact Ha
  isplitl [Hb Hr]
  · iapply (show iprop(six (fun d => (dutyTok ER (barCell (nbr c d)) 0 (key c d) : sProp 𝕄)) ∗ six (fun d => slotAny c (recvM d))) ⊢ six (toSignal c) from by
      rw [← all_six, ← all_six, ← all_six, ← bigSep_sep']; exact Entails.refl _)
    isplitl [Hb]; · iexact Hb
    iexact Hr
  isplitl [Hs]; · iexact Hs
  isplitl [Ht]; · iexact Ht
  isplitl [Hcr]; · iexact Hcr
  isplitl [HaR]; · iexact HaR
  iexact HaS

/-- A staging buffer of device `c`, held at contents `X`. -/
abbrev staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(before m ρ c ∗ (dats m ρ 0 c).owesAt () t0_0.castSucc
    ∗ (∃ d, staged c cc0_stg0_0 ((dats m ρ 0 c).before (0 : Fin 2) t0_0 d))
    ∗ (∃ d, staged c cc0_stg1_0 ((dats m ρ 0 c).before (1 : Fin 2) t0_0 d)))

def bodyPost (c : Dev nD) : sProp 𝕄 :=
  iprop(endPos c ∗ (dats m ρ 0 c).owesAt () t0_0.succ ∗ staged c cc0_stg0_0 (xstg m ρ c) ∗ staged c cc0_stg1_0 (outAt m ρ c))

/-- The kernel's body on device `c`, as the pipeline runs it. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _) cc0_scratch6 cc0_scratch7)
    (fun _ => bodyPost m ρ c)
  unfold bodyPre
  iintro ⟨Hb, HO, ⟨%d0, %g0, %hg0, Hx⟩, ⟨%d1, %g1, %hg1, Hout⟩⟩
  have hx : g0 = xstg m ρ c := by rw [hg0]; unfold Dat.before; rw [if_pos x_fetched]; rfl
  rw [hx]
  ihave Hb := (before_split m ρ c) $$ Hb
  icases Hb with ⟨%K, #HR, #Hlev, Hst⟩
  unfold Dat.owesAt Pipeline.owesWithin
  icases HO with ⟨%W, %hW, HO⟩
  rw [show (dats m ρ 0 c).owed t0_0.castSucc = O₀ c from rfl]
  iapply (run_body m ρ K c (fun _ => bodyPost m ρ c)) $$ [HO Hst Hx Hout]
  · isplitr; · iexact HR
    isplitr; · iexact Hlev
    isplitl [HO]
    · unfold owing; iexists W; iexact HO
    isplitl [Hst]; · iexact Hst
    isplitl [Hx]; · unfold xPts; iexact Hx
    iexists g1; unfold oPts; iexact Hout
  iintro ⟨HO, He, Hx, Hout⟩
  unfold bodyPost Dat.owesAt Pipeline.owesWithin owing xPts oPts
  icases HO with ⟨%W', HO⟩
  isplitl [He]; · iexact He
  isplitl [HO]
  · rw [show (dats m ρ 0 c).owed t0_0.succ = 0 from rfl]
    iexists W'
    isplitr
    · ipureintro; exact fun _ _ => Or.inl trivial
    iexact HO
  isplitl [Hx]
  · iexists (xstg m ρ c); isplitr; · ipureintro; rfl
    iexact Hx
  iexists (outAt m ρ c); isplitr; · ipureintro; rfl
  iexact Hout

/-! ## The launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl]
  unfold before
  iintro ⟨Hs, -, Hr⟩
  isplitl [Hs]; · iexact Hs
  iapply (cut_all (F := F) c)
  iexact Hr

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = endPos c from rfl, own_sems, unscoped_sems, all_six, all_six]
  unfold endPos
  iintro ⟨Hb, HV, HS, Hs, Hr⟩
  isplitl [Hb]; · iexact Hb
  isplitl [HS HV]
  · isplitl [HS]; · iexact HS
    iexact HV
  iapply (glue_all (F := F) c)
  isplitl [Hs]; · iexact Hs
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-- What the arrays of device `c`'s two windows hold at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values: every weakly fair execution of the program on the 32
    devices ends, and at the end each device's arrays hold `finalA` and every semaphore counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (mint m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array holds at the end what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- A view of the one block of the argument's window reads the whole array, -/
theorem read_x (f : main_arg0.ty.Contents (Elt F)) : (win0_0.blk (0 : Fin 1)).view.read (Elt F) f = f :=
  Memref.read_access_unit_zero (Elt F) main_arg0 (off := fun a => (win0_0.index (0 : Fin 1)) a * main_arg0.ty.shape.size a)
    (funext fun a => by fin_cases a <;> decide) (fun a => by fin_cases a <;> decide) f

/-- and one of the result's window too. -/
theorem read_out (f : main_v1.ty.Contents (Elt F)) : (win0_1.blk (0 : Fin 1)).view.read (Elt F) f = f :=
  Memref.read_access_unit_zero (Elt F) main_v1 (off := fun a => (win0_1.index (0 : Fin 1)) a * main_v1.ty.shape.size a)
    (funext fun a => by fin_cases a <;> decide) (fun a => by fin_cases a <;> decide) f

/-- The result's array holds at the end the block the body computes. -/
theorem finalA_out (c : Dev nD) : finalA m ρ c (1 : Fin 2) = outAt m ρ c := by
  refine (read_out (finalA m ρ c (1 : Fin 2))).symm.trans ?_
  unfold finalA
  rw [show cfg0.N = (t0_0 : Fin cfg0.N).val + 1 from rfl, (dats m ρ 0 c).arrAt_succ (1 : Fin 2) t0_0,
    show (cfg0.win (1 : Fin 2)).flush t0_0 = true from rfl, if_pos rfl]
  exact View.read_write_univ _ _

/-- The block the body reads is the device's argument. -/
theorem xstg_eq (c : Dev nD) : xstg m ρ c = m ((c : Thread nD τ).loc main_arg0) := read_x _

end Cert.Halo

end
-- ==== Proof.Ref.lean ====
/-
# The reference, element by element

What the reference's one device computes: the seven-point stencil inside the array, zero on its boundary.
-/
module

public import proofs.«01_k».proof.Proof.Gen.ReferenceIdeal.Run
public import Idealize.ShloMosaic.Lib.Pointwise
public import Idealize.ShloMosaic.Lib.Pointwise.Tactic

@[expose] public section

noncomputable section

namespace Cert.Stencil

open Cert.ReferenceIdeal Cert.ReferenceIdeal.Gen
open Idealize.ShloMosaic

/-- The reference's result, as its operations compute it from the whole array `u`. -/
def refOut (u : FVec Ideal S32x64x64 .bf16) : FVec Ideal S32x64x64 .bf16 :=
  truncf .bf16 (pad S32x64x64 ![1, 1, 1] ![1, 1, 1] ![0, 0, 0] (subf (addf (addf (addf (addf (addf (extractStridedSlice S30x62x62 ![0, 1, 1] (extf .f32 u bitsLt_bf16_f32) slices_S32x64x64_S30x62x62_0_1_1) (extractStridedSlice S30x62x62 ![2, 1, 1] (extf .f32 u bitsLt_bf16_f32) slices_S32x64x64_S30x62x62_2_1_1)) (extractStridedSlice S30x62x62 ![1, 0, 1] (extf .f32 u bitsLt_bf16_f32) slices_S32x64x64_S30x62x62_1_0_1)) (extractStridedSlice S30x62x62 ![1, 2, 1] (extf .f32 u bitsLt_bf16_f32) slices_S32x64x64_S30x62x62_1_2_1)) (extractStridedSlice S30x62x62 ![1, 1, 0] (extf .f32 u bitsLt_bf16_f32) slices_S32x64x64_S30x62x62_1_1_0)) (extractStridedSlice S30x62x62 ![1, 1, 2] (extf .f32 u bitsLt_bf16_f32) slices_S32x64x64_S30x62x62_1_1_2)) (mulf (broadcastInDim S30x62x62 ![] bcast_S_S30x62x62 (constant S_ .f32 0x40C00000#32)) (extractStridedSlice S30x62x62 ![1, 1, 1] (extf .f32 u bitsLt_bf16_f32) slices_S32x64x64_S30x62x62_1_1_1))) (sitofp .f32 (constantI S_ 32 0#32)) pads_S30x62x62_S32x64x64_110_110_110 h_S_) bitsLt_bf16_f32

/-- The factor of the centre, 6. -/
abbrev centre : EReal := Ideal.ofBits FTy.f32 0x40C00000#32

/-! ## Elements by their coordinates -/

/-- The element of the whole array at natural coordinates; zero outside. -/
def look (u : FVec Ideal S32x64x64 .bf16) (p : ℕ × ℕ × ℕ) : EReal :=
  if h : p.1 < 32 ∧ p.2.1 < 64 ∧ p.2.2 < 64 then u (ix3 ⟨p.1, h.1⟩ ⟨p.2.1, h.2.1⟩ ⟨p.2.2, h.2.2⟩) else 0

theorem look_ix3 (u : FVec Ideal S32x64x64 .bf16) (A : Fin 32) (B C : Fin 64) : u (ix3 A B C) = look u (A.val, B.val, C.val) := by
  unfold look
  rw [dif_pos ⟨A.isLt, B.isLt, C.isLt⟩]

/-- One step from `p` in each of the six directions. -/
def step (d : Fin 6) (p : ℕ × ℕ × ℕ) : ℕ × ℕ × ℕ :=
  (![(p.1 - 1, p.2.1, p.2.2), (p.1 + 1, p.2.1, p.2.2), (p.1, p.2.1 - 1, p.2.2), (p.1, p.2.1 + 1, p.2.2),
    (p.1, p.2.1, p.2.2 - 1), (p.1, p.2.1, p.2.2 + 1)] : Fin 6 → ℕ × ℕ × ℕ) d

/-- Whether `p` lies inside the array, off its boundary. -/
def Inside (p : ℕ × ℕ × ℕ) : Prop := (1 ≤ p.1 ∧ p.1 < 31) ∧ (1 ≤ p.2.1 ∧ p.2.1 < 63) ∧ 1 ≤ p.2.2 ∧ p.2.2 < 63

/-- The stencil at `p`: its six neighbours, less six times itself. -/
def stencil (u : FVec Ideal S32x64x64 .bf16) (p : ℕ × ℕ × ℕ) : EReal :=
  look u (step 0 p) + look u (step 1 p) + look u (step 2 p) + look u (step 3 p) + look u (step 4 p) + look u (step 5 p)
    - centre * look u p

/-- The reference's result inside the array is the stencil, -/
theorem ref_inside (u : FVec Ideal S32x64x64 .bf16) (A : Fin 32) (B C : Fin 64) (h : Inside (A.val, B.val, C.val)) :
    refOut u (ix3 A B C) = stencil u (A.val, B.val, C.val) := by
  obtain ⟨⟨hA, hA'⟩, ⟨hB, hB'⟩, hC, hC'⟩ := h
  dsimp only at hA hA' hB hB' hC hC'
  unfold refOut
  pointwise
  rw [dif_pos ⟨⟨hA, by omega⟩, ⟨hB, by omega⟩, hC, by omega⟩]
  have s1 : ∀ n : ℕ, 1 ≤ n → 1 + (n - 1) = n := fun n hn => by omega
  have s2 : ∀ n : ℕ, 1 ≤ n → 2 + (n - 1) = n + 1 := fun n hn => by omega
  simp only [look_ix3, s1 _ hA, s1 _ hB, s1 _ hC, s2 _ hA, s2 _ hB, s2 _ hC]
  rfl

/-- and on the boundary zero. -/
theorem ref_rim (u : FVec Ideal S32x64x64 .bf16) (A : Fin 32) (B C : Fin 64) (h : ¬ Inside (A.val, B.val, C.val)) :
    refOut u (ix3 A B C) = 0 := by
  unfold refOut
  pointwise
  rw [dif_neg fun ⟨⟨hA, hA'⟩, ⟨hB, hB'⟩, hC, hC'⟩ => h
    ⟨⟨hA, show A.val < 31 by omega⟩, ⟨hB, show B.val < 63 by omega⟩, hC, show C.val < 63 by omega⟩]
  show (((0#32).toInt : ℝ) : EReal) = 0
  simp

end Cert.Stencil

end
-- ==== Proof.Value.lean ====
/-
# The kernel's blocks are the reference's

At the extended reals, the block a device writes is its block of the reference's result: the zeros the kernel takes for
what lies beyond its block, with what the received faces add, are the elements of the whole array there.
-/
module

public import proofs.«01_k».proof.Proof.Block
public import proofs.«01_k».proof.Proof.Protocol
public import proofs.«01_k».proof.Proof.Ref
public import Idealize.ShloMosaic.Lib.Layout

@[expose] public section

noncomputable section

namespace Cert.Stencil

open Cert.KernelIdeal Cert.KernelIdeal.Gen Cert.Halo
open Idealize.ShloMosaic

/-! ## Where a device's block lies -/

/-- The mesh coordinates of device `c`. -/
def grid (c : Dev nD) : ℕ × ℕ × ℕ := (c.val / 16, c.val / 4 % 4, c.val % 4)

/-- The coordinates, in the whole array, of an element of device `c`'s block. -/
def place (c : Dev nD) (a b e : Fin 16) : ℕ × ℕ × ℕ :=
  ((grid c).1 * 16 + a.val, (grid c).2.1 * 16 + b.val, (grid c).2.2 * 16 + e.val)

theorem grid_lt : ∀ c : Dev nD, (grid c).1 < 2 ∧ (grid c).2.1 < 4 ∧ (grid c).2.2 < 4 := by decide

/-- Device `c`'s block of a whole array. -/
abbrev blockOf (c : Dev nD) (u : FVec Ideal Cert.ReferenceIdeal.S32x64x64 .bf16) : FVec Ideal S16x16x16 .bf16 :=
  Layout.blockN ⟨3, ![16, 16, 16]⟩ ⟨3, ![32, 64, 64]⟩ (Layout.meshBlock [2, 4, 4] ![[0], [1], [2]] c) u

theorem mesh_grid : ∀ c : Dev nD, Layout.meshLin [2, 4, 4] c.val [0] = (grid c).1 ∧ Layout.meshLin [2, 4, 4] c.val [1] = (grid c).2.1
    ∧ Layout.meshLin [2, 4, 4] c.val [2] = (grid c).2.2 := by decide

/-- An element of a device's block is the element of the whole array at its place. -/
theorem block_ix3 (c : Dev nD) (u : FVec Ideal Cert.ReferenceIdeal.S32x64x64 .bf16) (a b e : Fin 16) :
    ∃ (A : Fin 32) (B C : Fin 64), blockOf c u (ix3 a b e) = u (ix3 A B C) ∧ (A.val, B.val, C.val) = place c a b e := by
  obtain ⟨h0, h1, h2⟩ := grid_lt c
  obtain ⟨m0, m1, m2⟩ := mesh_grid c
  refine ⟨⟨(grid c).1 * 16 + a.val, by omega⟩, ⟨(grid c).2.1 * 16 + b.val, by omega⟩, ⟨(grid c).2.2 * 16 + e.val, by omega⟩, ?_, rfl⟩
  unfold blockOf
  rw [Layout.blockN_apply]
  refine congrArg u (funext fun k => Fin.ext ?_)
  rw [Layout.TilesN.idx_val, Layout.meshBlock_val]
  fin_cases k
  · exact congrArg (fun n => n * 16 + a.val) m0
  · exact congrArg (fun n => n * 16 + b.val) m1
  · exact congrArg (fun n => n * 16 + e.val) m2

theorem block_look (c : Dev nD) (u : FVec Ideal Cert.ReferenceIdeal.S32x64x64 .bf16) (a b e : Fin 16) :
    blockOf c u (ix3 a b e) = look u (place c a b e) := by
  obtain ⟨A, B, C, h, hp⟩ := block_ix3 c u a b e
  rw [h, look_ix3 u A B C, hp]

/-- The neighbour in a direction is one step away in the mesh. -/
theorem grid_nbr : ∀ (c : Dev nD) (d : Dir), has c d = true → step (opp d) (grid (nbr c d)) = grid c ∧ step d (grid c) = grid (nbr c d) := by decide

/-- The last element of the neighbour's block, seen from an element on the face between the two. -/
def facing (d : Dir) (a b e : Fin 16) : Fin 16 × Fin 16 × Fin 16 :=
  (![(15, b, e), (0, b, e), (a, 15, e), (a, 0, e), (a, b, 15), (a, b, 0)] : Fin 6 → Fin 16 × Fin 16 × Fin 16) d

/-- It lies one step from that element. -/
theorem place_facing (c : Dev nD) (d : Dir) (a b e : Fin 16) (hd : has c d = true) (he : edge d a b e = true) :
    place (nbr c d) (facing d a b e).1 (facing d a b e).2.1 (facing d a b e).2.2 = step d (place c a b e) := by
  obtain ⟨h1, h2⟩ := grid_nbr c d hd
  unfold place
  generalize grid (nbr c d) = g' at *
  generalize grid c = g at *
  obtain ⟨g0, g1, g2⟩ := g
  obtain ⟨k0, k1, k2⟩ := g'
  fin_cases d <;> simp [step, opp, edge, facing, Prod.ext_iff] at h1 h2 he ⊢ <;> subst he <;> simp <;> omega

/-- What a face holds at the place of an element: the neighbour's element facing it. -/
theorem face_across (y : FVec Ideal S16x16x16 .bf16) (d : Dir) (a b e : Fin 16) :
    face (F := Ideal) y (opp d) (across d a b e) = y (ix3 (facing d a b e).1 (facing d a b e).2.1 (facing d a b e).2.2) := by
  fin_cases d
  · show shapeCast S16x16 (k0_pay3 y) shapeCasts_S1x16x16_S16x16 (ix2 b e) = y (ix3 15 b e)
    pointwise [k0_pay3, k0_pay1]
  · show shapeCast S16x16 (k0_pay2 y) shapeCasts_S1x16x16_S16x16 (ix2 b e) = y (ix3 0 b e)
    pointwise [k0_pay2, k0_pay1]
  · show shapeCast S16x16 (k0_pay5 y) shapeCasts_S1x16x16_S16x16 (ix2 a e) = y (ix3 a 15 e)
    pointwise [k0_pay5, k0_pay1]
  · show shapeCast S16x16 (k0_pay4 y) shapeCasts_S1x16x16_S16x16 (ix2 a e) = y (ix3 a 0 e)
    pointwise [k0_pay4, k0_pay1]
  · show shapeCast S16x16 (k0_pay8 (k0_pay7 y)) shapeCasts_S1x16x16_S16x16 (ix2 a b) = y (ix3 a b 15)
    pointwise [k0_pay7, k0_pay8, k0_pay1]
  · show shapeCast S16x16 (k0_pay6 y) shapeCasts_S1x16x16_S16x16 (ix2 a b) = y (ix3 a b 0)
    pointwise [k0_pay6, k0_pay1]

/-! ## The stencil, direction by direction -/

theorem zero_eq : (zero (F := Ideal) : EReal) = 0 := Ideal.ofBits_zero_f32
theorem none_eq : Ideal.ofBits FTy.bf16 0#16 = 0 := by simp [Ideal.ofBits, Ideal.ieee]
theorem centre_eq : Ideal.ofBits FTy.bf16 16576#16 = centre := by
  unfold centre
  simp [Ideal.ofBits, Ideal.ieee, -EReal.coe_mul]
  norm_num

/-- What the block's own stencil takes from direction `d`: the next element of the block, or zero beyond it. -/
def own (x : FVec Ideal S16x16x16 .bf16) (a b e : Fin 16) (d : Dir) : EReal :=
  if edge d a b e then 0 else
    x ((![ix3 (a - 1) b e, ix3 (a + 1) b e, ix3 a (b - 1) e, ix3 a (b + 1) e, ix3 a b (e - 1), ix3 a b (e + 1)] : Fin 6 → S16x16x16.Idx) d)

theorem down {α : Type} (z : α) (f : Fin 16 → α) (a : Fin 16) :
    (if h : a.val < 1 then z else f ⟨a.val - 1, by omega⟩) = if (a == 0) = true then z else f (a - 1) := by
  by_cases h : a = 0
  · subst h; rfl
  · have h0 : ¬ a.val < 1 := fun hh => h (Fin.ext (by simpa using hh))
    rw [dif_neg h0, if_neg (by simpa using h)]
    exact congrArg f (Fin.ext (by rw [Fin.sub_def]; simp; omega))

theorem ahead {α : Type} (z : α) (f : Fin 16 → α) (a : Fin 16) :
    (if h : a.val < 15 then f ⟨1 + a.val, by omega⟩ else z) = if (a == 15) = true then z else f (a + 1) := by
  by_cases h : a = 15
  · subst h; rfl
  · have h0 : a.val < 15 := by
      have := a.isLt
      have : a.val ≠ 15 := fun hh => h (Fin.ext hh)
      omega
    rw [dif_pos h0, if_neg (by simpa using h)]
    exact congrArg f (Fin.ext (by rw [Fin.add_def]; simp; omega))

/-- The block's own stencil as the six takings, less six times the element. -/
theorem core_eq (x : FVec Ideal S16x16x16 .bf16) (a b e : Fin 16) :
    core (F := Ideal) x a b e = (own x a b e 0 + own x a b e 1 + own x a b e 2 + own x a b e 3 + own x a b e 4 + own x a b e 5
      - centre * x (ix3 a b e) : EReal) := by
  unfold core
  simp only [Ideal.ofBits_def, Ideal.addf_def, Ideal.subf_def, Ideal.mulf_def, none_eq, centre_eq]
  rw [down 0 (fun k => x (ix3 k b e)), ahead 0 (fun k => x (ix3 k b e)), down 0 (fun k => x (ix3 a k e)), ahead 0 (fun k => x (ix3 a k e)),
    down 0 (fun k => x (ix3 a b k)), ahead 0 (fun k => x (ix3 a b k))]
  rfl

/-- Off the face, what the block's own stencil takes is the element one step away; -/
theorem own_off (c : Dev nD) (u : FVec Ideal Cert.ReferenceIdeal.S32x64x64 .bf16) (a b e : Fin 16) (d : Dir) (he : ¬ edge d a b e = true) :
    own (blockOf c u) a b e d = look u (step d (place c a b e)) := by
  unfold own
  rw [if_neg he]
  have lo : ∀ k : Fin 16, k ≠ 0 → ∀ n : ℕ, n + (k - 1).val = n + k.val - 1 := fun k hk n => by
    have h : (k - 1).val + 1 = k.val := (show ∀ k : Fin 16, k ≠ 0 → (k - 1).val + 1 = k.val by decide) k hk
    omega
  have hi : ∀ k : Fin 16, k ≠ 15 → ∀ n : ℕ, n + (k + 1).val = n + k.val + 1 := fun k hk n => by
    have h : (k + 1).val = k.val + 1 := (show ∀ k : Fin 16, k ≠ 15 → (k + 1).val = k.val + 1 by decide) k hk
    omega
  fin_cases d <;> simp [edge] at he <;> refine (block_look c u _ _ _).trans (congrArg (look u) ?_) <;>
    simp [place, step, lo, hi, he]

/-- on it, the received face adds that element. -/
theorem taken (c : Dev nD) (u : FVec Ideal Cert.ReferenceIdeal.S32x64x64 .bf16) (a b e : Fin 16) (d : Dir)
    (h : edge d a b e = true → has c d = true) :
    (own (blockOf c u) a b e d + gain (F := Ideal) (fun d => face (blockOf (nbr c d) u) (opp d)) a b e d : EReal)
      = look u (step d (place c a b e)) := by
  by_cases he : edge d a b e = true
  · unfold own gain
    rw [if_pos he, if_pos he, zero_add]
    beta_reduce
    rw [face_across, block_look, place_facing c d a b e (h he) he]
  · rw [own_off c u a b e d he]
    unfold gain
    rw [if_neg he, zero_eq, add_zero]

/-! ## The boundary -/

theorem has_grid : ∀ c : Dev nD, has c 0 = decide (0 < (grid c).1) ∧ has c 1 = decide ((grid c).1 < 1) ∧ has c 2 = decide (0 < (grid c).2.1)
    ∧ has c 3 = decide ((grid c).2.1 < 3) ∧ has c 4 = decide (0 < (grid c).2.2) ∧ has c 5 = decide ((grid c).2.2 < 3) :=
  fun _ => ⟨rfl, rfl, rfl, rfl, rfl, rfl⟩

/-- Off the boundary of the whole array, every face an element lies on has a neighbour behind it. -/
theorem rim_edge (c : Dev nD) (a b e : Fin 16) (h : ¬ rim c a b e = true) (d : Dir) (he : edge d a b e = true) : has c d = true := by
  by_contra hh
  rw [Bool.not_eq_true] at hh
  apply h
  unfold rim
  fin_cases d <;> simp_all

/-- The elements the kernel zeroes are the whole array's boundary. -/
theorem rim_iff (c : Dev nD) (a b e : Fin 16) : rim c a b e = true ↔ ¬ Inside (place c a b e) := by
  obtain ⟨h0, h1, h2, h3, h4, h5⟩ := has_grid c
  obtain ⟨g0, g1, g2⟩ := grid_lt c
  unfold rim
  rw [h0, h1, h2, h3, h4, h5]
  simp only [edge, place, Inside]
  have e0 : ∀ k : Fin 16, (k == 0) = decide (k.val = 0) := by decide
  have e1 : ∀ k : Fin 16, (k == 15) = decide (k.val = 15) := by decide
  simp [e0, e1]
  have := a.isLt
  have := b.isLt
  have := e.isLt
  omega

/-! ## The two results -/

/-- The block device `c` writes, from its block of `u` and its neighbours' faces, is its block of the reference's result. -/
theorem block_out (c : Dev nD) (u : FVec Ideal Cert.ReferenceIdeal.S32x64x64 .bf16) :
    outBlk (F := Ideal) c (blockOf c u) (fun d => face (blockOf (nbr c d) u) (opp d)) = blockOf c (refOut u) := by
  funext i
  obtain ⟨a, b, e, rfl⟩ : ∃ a b e : Fin 16, i = ix3 a b e := ⟨i 0, i 1, i 2, eq_ix3 i⟩
  obtain ⟨A, B, C, hr, hp⟩ := block_ix3 c (refOut u) a b e
  rw [out_apply, hr]
  by_cases h : rim c a b e = true
  · rw [if_pos h, ref_rim u A B C (by rw [hp]; exact (rim_iff c a b e).mp h)]
    exact zero_eq
  · rw [if_neg h, ref_inside u A B C (by rw [hp]; by_contra hn; exact h ((rim_iff c a b e).mpr hn)), hp, core_eq, block_look]
    unfold stencil
    have ht := fun d => taken c u a b e d (rim_edge c a b e h d)
    rw [← ht 0, ← ht 1, ← ht 2, ← ht 3, ← ht 4, ← ht 5]
    simp only [Ideal.addf_def, sub_eq_add_neg]
    ac_rfl

end Cert.Stencil

end
-- ==== Proof.lean ====
/-
# The certificate's claims

The two kernel programs have one text, so one run serves both: the program's own frame reads it at bit patterns, its
idealization's at the extended reals. The reference's frame is its host operations' run. The values agree block by block.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem Cert.Halo Cert.Stencil

section OneText

variable {F : FTy → Type} [FloatOps F]

/-- The kernel's body is its idealization's, -/
theorem bodies_eq : Cert.Kernel.defs₀ (F := F) = Cert.KernelIdeal.defs₀ (F := F) := by
  unfold Cert.Kernel.defs₀ Cert.KernelIdeal.defs₀
  refine congrArg Defs.onTc (funext fun l => funext fun x => ?_)
  obtain rfl : l = (0 : Fin 1) := Subsingleton.elim _ _
  rfl

/-- and so is all it calls. -/
theorem defs_eq : Cert.Kernel.defs (F := F) = Cert.KernelIdeal.defs (F := F) := by
  unfold Cert.Kernel.defs Cert.KernelIdeal.defs
  exact congrArg (Pipeline.defs _) bodies_eq

end OneText

/-- The kernel ends from every memory, its argument unchanged and every semaphore at zero. -/
theorem frame_kernel : Cert.quiescent_Kernel := fun m ρ _ => by
  rw [defs_eq]
  exact (θ_run Cert.KernelIdeal.defs _ _).mono (fun _ h => ⟨fun c => (h.1 c (0 : Fin 2)).trans (finalA_x m ρ c), h.2⟩) (run_main (F := Bits) m ρ)

/-- So does its idealization, -/
theorem frame_ideal : Cert.quiescent_KernelIdeal := fun m ρ _ =>
  (θ_run Cert.KernelIdeal.defs _ _).mono (fun _ h => ⟨fun c => (h.1 c (0 : Fin 2)).trans (finalA_x m ρ c), h.2⟩) (run_main (F := Ideal) m ρ)

/-- and so does the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At the extended reals, where each device starts with its block of the reference's argument, each device ends with its
    block of the reference's result. -/
theorem value : Cert.algebraic_KernelIdeal_ReferenceIdeal := fun m ρ m' ρ' _ hx =>
  ⟨refOut (m' (((0 : Dev Cert.ReferenceIdeal.nD).tc : Thread _ Cert.ReferenceIdeal.τ).loc Cert.ReferenceIdeal.main_arg0)),
    (θ_run Cert.KernelIdeal.defs _ _).mono (fun _ h c => ⟨by
        refine (h.1 c (1 : Fin 2)).trans ((finalA_out m ρ c).trans ?_)
        unfold outAt
        simp only [xstg_eq]
        refine Eq.trans ?_ (block_out c (m' (((0 : Dev Cert.ReferenceIdeal.nD).tc : Thread _ Cert.ReferenceIdeal.τ).loc Cert.ReferenceIdeal.main_arg0)))
        rw [hx c]
        refine congrArg (outBlk (F := Ideal) c _) (funext fun d => ?_)
        rw [hx (nbr c d)], (h.1 c (0 : Fin 2)).trans (finalA_x m ρ c)⟩) (run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
